-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_above_neg_inf [hPre_weights_above_neg_inf : Cert.Pre_weights_above_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_weights_above_neg_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_above_neg_inf [hPre_weights_above_neg_inf : Cert.Pre_weights_above_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_above_neg_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_above_neg_inf [hKernelIdeal : Cert.KernelIdeal.Facts] [hPre_weights_above_neg_inf : Cert.Pre_weights_above_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_above_neg_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_above_neg_inf [hReferenceIdeal : Cert.ReferenceIdeal.Facts] [hPre_weights_above_neg_inf : Cert.Pre_weights_above_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_above_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_weights_above_neg_inf [hKernelIdeal : Cert.KernelIdeal.Facts] [hReferenceIdeal : Cert.ReferenceIdeal.Facts] [hPre_weights_above_neg_inf : Cert.Pre_weights_above_neg_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_above_neg_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_above_neg_inf : Cert.Pre_weights_above_neg_inf.Facts),
    quiescent_Kernel (hKernel := hKernel)
    ∧ quiescent_KernelIdeal (hKernelIdeal := hKernelIdeal)
    ∧ quiescent_KernelIdeal_pre_weights_above_neg_inf (hKernelIdeal := hKernelIdeal) (hPre_weights_above_neg_inf := hPre_weights_above_neg_inf)
    ∧ quiescent_ReferenceIdeal (hReferenceIdeal := hReferenceIdeal)
    ∧ quiescent_ReferenceIdeal_pre_weights_above_neg_inf (hReferenceIdeal := hReferenceIdeal) (hPre_weights_above_neg_inf := hPre_weights_above_neg_inf)
    ∧ preserves_Kernel_KernelIdeal
    ∧ algebraic_KernelIdeal_ReferenceIdeal_pre_weights_above_neg_inf (hKernelIdeal := hKernelIdeal) (hReferenceIdeal := hReferenceIdeal) (hPre_weights_above_neg_inf := hPre_weights_above_neg_inf)
-- ==== Pre_weights_above_neg_inf.lean ====
abbrev S2x384x224x224 : Shape := ⟨4, ![2, 384, 224, 224]⟩
abbrev S2x64x224x224 : Shape := ⟨4, ![2, 64, 224, 224]⟩
abbrev S64x384x3x3 : Shape := ⟨4, ![64, 384, 3, 3]⟩
abbrev S_ : Shape := ⟨0, ![]⟩

class Facts : Prop where
  bcast_S_S2x64x224x224 : S_.BroadcastsInDim S2x64x224x224 (![] : Fin 0 → Fin S2x64x224x224.rank)
  reducesTo_S2x64x224x224_S_d0_1_2_3 : S2x64x224x224.ReducesTo [0, 1, 2, 3] S_
  h_S_ : 0 < S_.numel

variable [Facts]

def fn {F : FTy → Type} [FloatOps F] (main_arg0 : FVec F S2x384x224x224 .f32) (main_arg1 : FVec F S2x64x224x224 .f32) (main_arg2 : FVec F S64x384x3x3 .f32) : IVec S_ 1 :=
  let main_cst : FVec F S_ .f32 := constant S_ .f32 0xFF800000#32
  let main_v0 : FVec F S2x64x224x224 .f32 := broadcastInDim S2x64x224x224 ![] bcast_S_S2x64x224x224 main_cst
  let main_v1 : IVec S2x64x224x224 1 := cmpf .ogt main_arg1 main_v0
  let main_c : IVec S_ 1 := constantI S_ 1 1#1
  let main_v2 : IVec S_ 1 := (fun x v => Host.reduce IntOp.andi x v reducesTo_S2x64x224x224_S_d0_1_2_3 h_S_) main_v1 main_c
  main_v2
-- ==== Kernel.lean ====
abbrev S2x384x224x224 : Shape := ⟨4, ![2, 384, 224, 224]⟩
abbrev S2x64x224x224 : Shape := ⟨4, ![2, 64, 224, 224]⟩
abbrev S64x384x3x3 : Shape := ⟨4, ![64, 384, 3, 3]⟩
abbrev S2x384x50176 : Shape := ⟨3, ![2, 384, 50176]⟩
abbrev S2x64x50176 : Shape := ⟨3, ![2, 64, 50176]⟩
abbrev S3x3x64x384 : Shape := ⟨4, ![3, 3, 64, 384]⟩
abbrev S576x384 : Shape := ⟨2, ![576, 384]⟩
abbrev S2x8x50176 : Shape := ⟨3, ![2, 8, 50176]⟩
abbrev S1x64x12544 : Shape := ⟨3, ![1, 64, 12544]⟩
abbrev S1x8x12544 : Shape := ⟨3, ![1, 8, 12544]⟩
abbrev S2x384x13056 : Shape := ⟨3, ![2, 384, 13056]⟩
abbrev S576x13056 : Shape := ⟨2, ![576, 13056]⟩
abbrev S2x4 : Shape := ⟨2, ![2, 4]⟩
abbrev S1x1 : Shape := ⟨2, ![1, 1]⟩
abbrev S_ : Shape := ⟨0, ![]⟩
abbrev S1x96x12800 : Shape := ⟨3, ![1, 96, 12800]⟩
abbrev S96x12800 : Shape := ⟨2, ![96, 12800]⟩
abbrev S1x96x13056 : Shape := ⟨3, ![1, 96, 13056]⟩
abbrev S96x13056 : Shape := ⟨2, ![96, 13056]⟩
abbrev S1x384x13056 : Shape := ⟨3, ![1, 384, 13056]⟩
abbrev S384x13056 : Shape := ⟨2, ![384, 13056]⟩
abbrev S1x12544 : Shape := ⟨2, ![1, 12544]⟩
abbrev S64x12544 : Shape := ⟨2, ![64, 12544]⟩
abbrev S12544 : Shape := ⟨1, ![12544]⟩
abbrev S1x1x12544 : Shape := ⟨3, ![1, 1, 12544]⟩
abbrev S2x8x224x224 : Shape := ⟨4, ![2, 8, 224, 224]⟩

abbrev nBuf : Space → Nat
  | .hbm => 14
  | .vmem => 11
  | .smem => 0
  | _ => 0

abbrev bufTy : (tb : Table) → Fin (tcTables nBuf tb) → BufTy
  | .hbm, ⟨0, _⟩ => ⟨S2x384x224x224, .f32⟩
  | .hbm, ⟨1, _⟩ => ⟨S2x64x224x224, .f32⟩
  | .hbm, ⟨2, _⟩ => ⟨S64x384x3x3, .f32⟩
  | .hbm, ⟨3, _⟩ => ⟨S2x384x50176, .f32⟩
  | .hbm, ⟨4, _⟩ => ⟨S2x64x50176, .f32⟩
  | .hbm, ⟨5, _⟩ => ⟨S3x3x64x384, .f32⟩
  | .hbm, ⟨6, _⟩ => ⟨S576x384, .f32⟩
  | .hbm, ⟨7, _⟩ => ⟨S576x384, .bf16⟩
  | .hbm, ⟨8, _⟩ => ⟨S2x8x50176, .f32⟩
  | .hbm, ⟨9, _⟩ => ⟨S2x8x50176, .f32⟩
  | .hbm, ⟨10, _⟩ => ⟨S2x8x50176, .i32⟩
  | .hbm, ⟨11, _⟩ => ⟨S2x8x224x224, .f32⟩
  | .hbm, ⟨12, _⟩ => ⟨S2x8x224x224, .f32⟩
  | .hbm, ⟨13, _⟩ => ⟨S2x8x224x224, .i32⟩
  | .local _ .vmem, ⟨0, _⟩ => ⟨S1x64x12544, .f32⟩
  | .local _ .vmem, ⟨1, _⟩ => ⟨S1x64x12544, .f32⟩
  | .local _ .vmem, ⟨2, _⟩ => ⟨S576x384, .bf16⟩
  | .local _ .vmem, ⟨3, _⟩ => ⟨S1x8x12544, .f32⟩
  | .local _ .vmem, ⟨4, _⟩ => ⟨S1x8x12544, .f32⟩
  | .local _ .vmem, ⟨5, _⟩ => ⟨S1x8x12544, .f32⟩
  | .local _ .vmem, ⟨6, _⟩ => ⟨S1x8x12544, .f32⟩
  | .local _ .vmem, ⟨7, _⟩ => ⟨S1x8x12544, .i32⟩
  | .local _ .vmem, ⟨8, _⟩ => ⟨S1x8x12544, .i32⟩
  | .local _ .vmem, ⟨9, _⟩ => ⟨S2x384x13056, .f32⟩
  | .local _ .vmem, ⟨10, _⟩ => ⟨S576x13056, .f32⟩
  | _, _ => ⟨S2x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 : BitVec 1 :=
  let v_false : BitVec 1 := 0#1
  let true_177 : BitVec 1 := 1#1
  let true_178 : BitVec 1 := 1#1
  let v383 : BitVec 1 := Scalar.xori true_177 true_178
  let v384 : BitVec 1 := Scalar.andi v_false v383
  let v409 : BitVec 32 := Scalar.extui v384
  let c0_i32_207 : BitVec 32 := 0#32
  let v410 : BitVec 1 := Scalar.cmpi .ne v409 c0_i32_207
  v410

def k0_mult1 : BitVec 32 :=
  let c_m256_i32 : BitVec 32 := 4294967040#32
  let c0_i32_211 : BitVec 32 := 0#32
  let v415 : BitVec 32 := Scalar.maxsi c_m256_i32 c0_i32_211
  v415
def k0_off1 : Fin 3 → Nat :=
  let c0_i32_212 : BitVec 32 := 0#32
  let c0_i32_218 : BitVec 32 := 0#32
  let c_m256_i32 : BitVec 32 := 4294967040#32
  let c0_i32_211 : BitVec 32 := 0#32
  let v415 : BitVec 32 := Scalar.maxsi c_m256_i32 c0_i32_211
  let v416 : BitVec 32 := v415
  ![0, 0, v416.toNat]
def k0_mult2 : BitVec 32 :=
  let c_m256_i32_219 : BitVec 32 := 4294967040#32
  let c0_i32_220 : BitVec 32 := 0#32
  let v423 : BitVec 32 := Scalar.maxsi c_m256_i32_219 c0_i32_220
  v423
def k0_off2 : Fin 3 → Nat :=
  let c0_i32_221 : BitVec 32 := 0#32
  let c96_i32_227 : BitVec 32 := 96#32
  let c_m256_i32_219 : BitVec 32 := 4294967040#32
  let c0_i32_220 : BitVec 32 := 0#32
  let v423 : BitVec 32 := Scalar.maxsi c_m256_i32_219 c0_i32_220
  let v424 : BitVec 32 := v423
  ![0, 96, v424.toNat]
def k0_mult3 : BitVec 32 :=
  let c_m256_i32_228 : BitVec 32 := 4294967040#32
  let c0_i32_229 : BitVec 32 := 0#32
  let v431 : BitVec 32 := Scalar.maxsi c_m256_i32_228 c0_i32_229
  v431
def k0_off3 : Fin 3 → Nat :=
  let c0_i32_230 : BitVec 32 := 0#32
  let c192_i32_236 : BitVec 32 := 192#32
  let c_m256_i32_228 : BitVec 32 := 4294967040#32
  let c0_i32_229 : BitVec 32 := 0#32
  let v431 : BitVec 32 := Scalar.maxsi c_m256_i32_228 c0_i32_229
  let v432 : BitVec 32 := v431
  ![0, 192, v432.toNat]
def k0_mult4 : BitVec 32 :=
  let c_m256_i32_237 : BitVec 32 := 4294967040#32
  let c0_i32_238 : BitVec 32 := 0#32
  let v439 : BitVec 32 := Scalar.maxsi c_m256_i32_237 c0_i32_238
  v439
def k0_off4 : Fin 3 → Nat :=
  let c0_i32_239 : BitVec 32 := 0#32
  let c288_i32_245 : BitVec 32 := 288#32
  let c_m256_i32_237 : BitVec 32 := 4294967040#32
  let c0_i32_238 : BitVec 32 := 0#32
  let v439 : BitVec 32 := Scalar.maxsi c_m256_i32_237 c0_i32_238
  let v440 : BitVec 32 := v439
  ![0, 288, v440.toNat]
def k0_cond3 : BitVec 1 :=
  let true_208 : BitVec 1 := 1#1
  let v_false : BitVec 1 := 0#1
  let true_177 : BitVec 1 := 1#1
  let true_178 : BitVec 1 := 1#1
  let v383 : BitVec 1 := Scalar.xori true_177 true_178
  let v384 : BitVec 1 := Scalar.andi v_false v383
  let v411 : BitVec 1 := Scalar.ori true_208 v384
  let true_209 : BitVec 1 := 1#1
  let v412 : BitVec 1 := Scalar.xori v411 true_209
  let v413 : BitVec 32 := Scalar.extui v412
  let c0_i32_210 : BitVec 32 := 0#32
  let v414 : BitVec 1 := Scalar.cmpi .ne v413 c0_i32_210
  v414

def k0_mult5 : BitVec 32 :=
  let c_m256_i32 : BitVec 32 := 4294967040#32
  let c0_i32_211 : BitVec 32 := 0#32
  let v415 : BitVec 32 := Scalar.maxsi c_m256_i32 c0_i32_211
  v415
def k0_off5 : Fin 3 → Nat :=
  let c0_i32_212 : BitVec 32 := 0#32
  let c0_i32_218 : BitVec 32 := 0#32
  let c_m256_i32 : BitVec 32 := 4294967040#32
  let c0_i32_211 : BitVec 32 := 0#32
  let v415 : BitVec 32 := Scalar.maxsi c_m256_i32 c0_i32_211
  let v416 : BitVec 32 := v415
  ![0, 0, v416.toNat]
def k0_mult6 : BitVec 32 :=
  let c_m256_i32_219 : BitVec 32 := 4294967040#32
  let c0_i32_220 : BitVec 32 := 0#32
  let v423 : BitVec 32 := Scalar.maxsi c_m256_i32_219 c0_i32_220
  v423
def k0_off6 : Fin 3 → Nat :=
  let c0_i32_221 : BitVec 32 := 0#32
  let c96_i32_227 : BitVec 32 := 96#32
  let c_m256_i32_219 : BitVec 32 := 4294967040#32
  let c0_i32_220 : BitVec 32 := 0#32
  let v423 : BitVec 32 := Scalar.maxsi c_m256_i32_219 c0_i32_220
  let v424 : BitVec 32 := v423
  ![0, 96, v424.toNat]
def k0_mult7 : BitVec 32 :=
  let c_m256_i32_228 : BitVec 32 := 4294967040#32
  let c0_i32_229 : BitVec 32 := 0#32
  let v431 : BitVec 32 := Scalar.maxsi c_m256_i32_228 c0_i32_229
  v431
def k0_off7 : Fin 3 → Nat :=
  let c0_i32_230 : BitVec 32 := 0#32
  let c192_i32_236 : BitVec 32 := 192#32
  let c_m256_i32_228 : BitVec 32 := 4294967040#32
  let c0_i32_229 : BitVec 32 := 0#32
  let v431 : BitVec 32 := Scalar.maxsi c_m256_i32_228 c0_i32_229
  let v432 : BitVec 32 := v431
  ![0, 192, v432.toNat]
def k0_mult8 : BitVec 32 :=
  let c_m256_i32_237 : BitVec 32 := 4294967040#32
  let c0_i32_238 : BitVec 32 := 0#32
  let v439 : BitVec 32 := Scalar.maxsi c_m256_i32_237 c0_i32_238
  v439
def k0_off8 : Fin 3 → Nat :=
  let c0_i32_239 : BitVec 32 := 0#32
  let c288_i32_245 : BitVec 32 := 288#32
  let c_m256_i32_237 : BitVec 32 := 4294967040#32
  let c0_i32_238 : BitVec 32 := 0#32
  let v439 : BitVec 32 := Scalar.maxsi c_m256_i32_237 c0_i32_238
  let v440 : BitVec 32 := v439
  ![0, 288, v440.toNat]
def k0_cond4 (i : grid0.Coords) : BitVec 1 :=
  let arg0 : BitVec 32 := BitVec.ofNat 32 (i 0).val
  let c1_i32 : BitVec 32 := 1#32
  let v3 : BitVec 32 := Scalar.addi arg0 c1_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_cond5 (i : grid0.Coords) : BitVec 1 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c0_i32_192 : BitVec 32 := 0#32
  let v413 : BitVec 1 := Scalar.cmpi .eq v402 c0_i32_192
  let v417 : BitVec 32 := Scalar.extui v413
  let c0_i32_195 : BitVec 32 := 0#32
  let v418 : BitVec 1 := Scalar.cmpi .ne v417 c0_i32_195
  v418

def k0_off9 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c0_i32_199 : BitVec 32 := 0#32
  ![v412.toNat, 0]
def k0_off10 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c0_i32_200 : BitVec 32 := 0#32
  let c256_i32 : BitVec 32 := 256#32
  ![v412.toNat, 0, 256]
def k0_off11 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c0_i32_201 : BitVec 32 := 0#32
  let c0_i32_202 : BitVec 32 := 0#32
  ![v400.toNat, 0, 0]
def k0_off12 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c1_i32_203 : BitVec 32 := 1#32
  ![v412.toNat, 1]
def k0_off13 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c96_i32 : BitVec 32 := 96#32
  let c256_i32_204 : BitVec 32 := 256#32
  ![v412.toNat, 96, 256]
def k0_off14 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c96_i32_205 : BitVec 32 := 96#32
  let c0_i32_206 : BitVec 32 := 0#32
  ![v400.toNat, 96, 0]
def k0_off15 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c2_i32_207 : BitVec 32 := 2#32
  ![v412.toNat, 2]
def k0_off16 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c192_i32 : BitVec 32 := 192#32
  let c256_i32_208 : BitVec 32 := 256#32
  ![v412.toNat, 192, 256]
def k0_off17 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c192_i32_209 : BitVec 32 := 192#32
  let c0_i32_210 : BitVec 32 := 0#32
  ![v400.toNat, 192, 0]
def k0_off18 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c3_i32_211 : BitVec 32 := 3#32
  ![v412.toNat, 3]
def k0_off19 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c288_i32 : BitVec 32 := 288#32
  let c256_i32_212 : BitVec 32 := 256#32
  ![v412.toNat, 288, 256]
def k0_off20 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c288_i32_213 : BitVec 32 := 288#32
  let c0_i32_214 : BitVec 32 := 0#32
  ![v400.toNat, 288, 0]
def k0_cond6 (i : grid0.Coords) : BitVec 1 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c3_i32_193 : BitVec 32 := 3#32
  let v414 : BitVec 1 := Scalar.cmpi .eq v402 c3_i32_193
  let c0_i32_192 : BitVec 32 := 0#32
  let v413 : BitVec 1 := Scalar.cmpi .eq v402 c0_i32_192
  let true_194 : BitVec 1 := 1#1
  let v415 : BitVec 1 := Scalar.xori v413 true_194
  let v416 : BitVec 1 := Scalar.andi v414 v415
  let v419 : BitVec 32 := Scalar.extui v416
  let c0_i32_196 : BitVec 32 := 0#32
  let v420 : BitVec 1 := Scalar.cmpi .ne v419 c0_i32_196
  v420

def k0_mult9 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32 : BitVec 32 := 12544#32
  let v425 : BitVec 32 := Scalar.muli v402 c12544_i32
  let c256_i32 : BitVec 32 := 256#32
  let v426 : BitVec 32 := Scalar.subi v425 c256_i32
  let c0_i32_199 : BitVec 32 := 0#32
  let v427 : BitVec 32 := Scalar.maxsi v426 c0_i32_199
  v427
def k0_off21 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c0_i32_200 : BitVec 32 := 0#32
  ![v412.toNat, 0]
def k0_off22 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c0_i32_201 : BitVec 32 := 0#32
  let c0_i32_202 : BitVec 32 := 0#32
  ![v412.toNat, 0, 0]
def k0_off23 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c0_i32_203 : BitVec 32 := 0#32
  let c4_i32_185 : BitVec 32 := 4#32
  let v401 : BitVec 32 := Scalar.muli v400 c4_i32_185
  let v402 : BitVec 32 := Scalar.subi v383 v401
  let c12544_i32 : BitVec 32 := 12544#32
  let v425 : BitVec 32 := Scalar.muli v402 c12544_i32
  let c256_i32 : BitVec 32 := 256#32
  let v426 : BitVec 32 := Scalar.subi v425 c256_i32
  let c0_i32_199 : BitVec 32 := 0#32
  let v427 : BitVec 32 := Scalar.maxsi v426 c0_i32_199
  let v428 : BitVec 32 := v427
  ![v400.toNat, 0, v428.toNat]
def k0_mult10 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32_204 : BitVec 32 := 12544#32
  let v435 : BitVec 32 := Scalar.muli v402 c12544_i32_204
  let c256_i32_205 : BitVec 32 := 256#32
  let v436 : BitVec 32 := Scalar.subi v435 c256_i32_205
  let c0_i32_206 : BitVec 32 := 0#32
  let v437 : BitVec 32 := Scalar.maxsi v436 c0_i32_206
  v437
def k0_off24 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c1_i32_207 : BitVec 32 := 1#32
  ![v412.toNat, 1]
def k0_off25 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c96_i32 : BitVec 32 := 96#32
  let c0_i32_208 : BitVec 32 := 0#32
  ![v412.toNat, 96, 0]
def k0_off26 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c96_i32_209 : BitVec 32 := 96#32
  let c4_i32_185 : BitVec 32 := 4#32
  let v401 : BitVec 32 := Scalar.muli v400 c4_i32_185
  let v402 : BitVec 32 := Scalar.subi v383 v401
  let c12544_i32_204 : BitVec 32 := 12544#32
  let v435 : BitVec 32 := Scalar.muli v402 c12544_i32_204
  let c256_i32_205 : BitVec 32 := 256#32
  let v436 : BitVec 32 := Scalar.subi v435 c256_i32_205
  let c0_i32_206 : BitVec 32 := 0#32
  let v437 : BitVec 32 := Scalar.maxsi v436 c0_i32_206
  let v438 : BitVec 32 := v437
  ![v400.toNat, 96, v438.toNat]
def k0_mult11 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32_210 : BitVec 32 := 12544#32
  let v445 : BitVec 32 := Scalar.muli v402 c12544_i32_210
  let c256_i32_211 : BitVec 32 := 256#32
  let v446 : BitVec 32 := Scalar.subi v445 c256_i32_211
  let c0_i32_212 : BitVec 32 := 0#32
  let v447 : BitVec 32 := Scalar.maxsi v446 c0_i32_212
  v447
def k0_off27 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c2_i32_213 : BitVec 32 := 2#32
  ![v412.toNat, 2]
def k0_off28 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c192_i32 : BitVec 32 := 192#32
  let c0_i32_214 : BitVec 32 := 0#32
  ![v412.toNat, 192, 0]
def k0_off29 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c192_i32_215 : BitVec 32 := 192#32
  let c4_i32_185 : BitVec 32 := 4#32
  let v401 : BitVec 32 := Scalar.muli v400 c4_i32_185
  let v402 : BitVec 32 := Scalar.subi v383 v401
  let c12544_i32_210 : BitVec 32 := 12544#32
  let v445 : BitVec 32 := Scalar.muli v402 c12544_i32_210
  let c256_i32_211 : BitVec 32 := 256#32
  let v446 : BitVec 32 := Scalar.subi v445 c256_i32_211
  let c0_i32_212 : BitVec 32 := 0#32
  let v447 : BitVec 32 := Scalar.maxsi v446 c0_i32_212
  let v448 : BitVec 32 := v447
  ![v400.toNat, 192, v448.toNat]
def k0_mult12 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32_216 : BitVec 32 := 12544#32
  let v455 : BitVec 32 := Scalar.muli v402 c12544_i32_216
  let c256_i32_217 : BitVec 32 := 256#32
  let v456 : BitVec 32 := Scalar.subi v455 c256_i32_217
  let c0_i32_218 : BitVec 32 := 0#32
  let v457 : BitVec 32 := Scalar.maxsi v456 c0_i32_218
  v457
def k0_off30 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c3_i32_219 : BitVec 32 := 3#32
  ![v412.toNat, 3]
def k0_off31 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c288_i32 : BitVec 32 := 288#32
  let c0_i32_220 : BitVec 32 := 0#32
  ![v412.toNat, 288, 0]
def k0_off32 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c288_i32_221 : BitVec 32 := 288#32
  let c4_i32_185 : BitVec 32 := 4#32
  let v401 : BitVec 32 := Scalar.muli v400 c4_i32_185
  let v402 : BitVec 32 := Scalar.subi v383 v401
  let c12544_i32_216 : BitVec 32 := 12544#32
  let v455 : BitVec 32 := Scalar.muli v402 c12544_i32_216
  let c256_i32_217 : BitVec 32 := 256#32
  let v456 : BitVec 32 := Scalar.subi v455 c256_i32_217
  let c0_i32_218 : BitVec 32 := 0#32
  let v457 : BitVec 32 := Scalar.maxsi v456 c0_i32_218
  let v458 : BitVec 32 := v457
  ![v400.toNat, 288, v458.toNat]
def k0_cond7 (i : grid0.Coords) : BitVec 1 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c0_i32_192 : BitVec 32 := 0#32
  let v413 : BitVec 1 := Scalar.cmpi .eq v402 c0_i32_192
  let c3_i32_193 : BitVec 32 := 3#32
  let v414 : BitVec 1 := Scalar.cmpi .eq v402 c3_i32_193
  let true_194 : BitVec 1 := 1#1
  let v415 : BitVec 1 := Scalar.xori v413 true_194
  let v416 : BitVec 1 := Scalar.andi v414 v415
  let v421 : BitVec 1 := Scalar.ori v413 v416
  let true_197 : BitVec 1 := 1#1
  let v422 : BitVec 1 := Scalar.xori v421 true_197
  let v423 : BitVec 32 := Scalar.extui v422
  let c0_i32_198 : BitVec 32 := 0#32
  let v424 : BitVec 1 := Scalar.cmpi .ne v423 c0_i32_198
  v424

def k0_mult13 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32 : BitVec 32 := 12544#32
  let v425 : BitVec 32 := Scalar.muli v402 c12544_i32
  let c256_i32 : BitVec 32 := 256#32
  let v426 : BitVec 32 := Scalar.subi v425 c256_i32
  let c0_i32_199 : BitVec 32 := 0#32
  let v427 : BitVec 32 := Scalar.maxsi v426 c0_i32_199
  v427
def k0_off33 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c0_i32_200 : BitVec 32 := 0#32
  ![v412.toNat, 0]
def k0_off34 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c0_i32_201 : BitVec 32 := 0#32
  let c0_i32_202 : BitVec 32 := 0#32
  ![v412.toNat, 0, 0]
def k0_off35 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c0_i32_203 : BitVec 32 := 0#32
  let c4_i32_185 : BitVec 32 := 4#32
  let v401 : BitVec 32 := Scalar.muli v400 c4_i32_185
  let v402 : BitVec 32 := Scalar.subi v383 v401
  let c12544_i32 : BitVec 32 := 12544#32
  let v425 : BitVec 32 := Scalar.muli v402 c12544_i32
  let c256_i32 : BitVec 32 := 256#32
  let v426 : BitVec 32 := Scalar.subi v425 c256_i32
  let c0_i32_199 : BitVec 32 := 0#32
  let v427 : BitVec 32 := Scalar.maxsi v426 c0_i32_199
  let v428 : BitVec 32 := v427
  ![v400.toNat, 0, v428.toNat]
def k0_mult14 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32_204 : BitVec 32 := 12544#32
  let v435 : BitVec 32 := Scalar.muli v402 c12544_i32_204
  let c256_i32_205 : BitVec 32 := 256#32
  let v436 : BitVec 32 := Scalar.subi v435 c256_i32_205
  let c0_i32_206 : BitVec 32 := 0#32
  let v437 : BitVec 32 := Scalar.maxsi v436 c0_i32_206
  v437
def k0_off36 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c1_i32_207 : BitVec 32 := 1#32
  ![v412.toNat, 1]
def k0_off37 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c96_i32 : BitVec 32 := 96#32
  let c0_i32_208 : BitVec 32 := 0#32
  ![v412.toNat, 96, 0]
def k0_off38 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c96_i32_209 : BitVec 32 := 96#32
  let c4_i32_185 : BitVec 32 := 4#32
  let v401 : BitVec 32 := Scalar.muli v400 c4_i32_185
  let v402 : BitVec 32 := Scalar.subi v383 v401
  let c12544_i32_204 : BitVec 32 := 12544#32
  let v435 : BitVec 32 := Scalar.muli v402 c12544_i32_204
  let c256_i32_205 : BitVec 32 := 256#32
  let v436 : BitVec 32 := Scalar.subi v435 c256_i32_205
  let c0_i32_206 : BitVec 32 := 0#32
  let v437 : BitVec 32 := Scalar.maxsi v436 c0_i32_206
  let v438 : BitVec 32 := v437
  ![v400.toNat, 96, v438.toNat]
def k0_mult15 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32_210 : BitVec 32 := 12544#32
  let v445 : BitVec 32 := Scalar.muli v402 c12544_i32_210
  let c256_i32_211 : BitVec 32 := 256#32
  let v446 : BitVec 32 := Scalar.subi v445 c256_i32_211
  let c0_i32_212 : BitVec 32 := 0#32
  let v447 : BitVec 32 := Scalar.maxsi v446 c0_i32_212
  v447
def k0_off39 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c2_i32_213 : BitVec 32 := 2#32
  ![v412.toNat, 2]
def k0_off40 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c192_i32 : BitVec 32 := 192#32
  let c0_i32_214 : BitVec 32 := 0#32
  ![v412.toNat, 192, 0]
def k0_off41 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c192_i32_215 : BitVec 32 := 192#32
  let c4_i32_185 : BitVec 32 := 4#32
  let v401 : BitVec 32 := Scalar.muli v400 c4_i32_185
  let v402 : BitVec 32 := Scalar.subi v383 v401
  let c12544_i32_210 : BitVec 32 := 12544#32
  let v445 : BitVec 32 := Scalar.muli v402 c12544_i32_210
  let c256_i32_211 : BitVec 32 := 256#32
  let v446 : BitVec 32 := Scalar.subi v445 c256_i32_211
  let c0_i32_212 : BitVec 32 := 0#32
  let v447 : BitVec 32 := Scalar.maxsi v446 c0_i32_212
  let v448 : BitVec 32 := v447
  ![v400.toNat, 192, v448.toNat]
def k0_mult16 (i : grid0.Coords) : BitVec 32 :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c4_i32_185 : BitVec 32 := 4#32
  let v401 : BitVec 32 := Scalar.muli v400 c4_i32_185
  let v402 : BitVec 32 := Scalar.subi v383 v401
  let c12544_i32_216 : BitVec 32 := 12544#32
  let v455 : BitVec 32 := Scalar.muli v402 c12544_i32_216
  let c256_i32_217 : BitVec 32 := 256#32
  let v456 : BitVec 32 := Scalar.subi v455 c256_i32_217
  let c0_i32_218 : BitVec 32 := 0#32
  let v457 : BitVec 32 := Scalar.maxsi v456 c0_i32_218
  v457
def k0_off42 (i : grid0.Coords) : Fin 2 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c3_i32_219 : BitVec 32 := 3#32
  ![v412.toNat, 3]
def k0_off43 (i : grid0.Coords) : Fin 3 → Nat :=
  let arg0 : BitVec 32 := BitVec.ofNat 32 (i 0).val
  let c1_i32_177 : BitVec 32 := 1#32
  let v383 : BitVec 32 := Scalar.addi arg0 c1_i32_177
  let c2_i32_186 : BitVec 32 := 2#32
  let c0_i32_187 : BitVec 32 := 0#32
  let v403 : BitVec 1 := Scalar.cmpi .eq c2_i32_186 c0_i32_187
  let c1_i32_188 : BitVec 32 := 1#32
  let v404 : BitVec 32 := Scalar.select v403 c1_i32_188 c2_i32_186
  let v405 : BitVec 32 := Scalar.remsi v383 v404
  let c0_i32_190 : BitVec 32 := 0#32
  let v407 : BitVec 1 := Scalar.cmpi .slt v405 c0_i32_190
  let c0_i32_191 : BitVec 32 := 0#32
  let v408 : BitVec 1 := Scalar.cmpi .slt v404 c0_i32_191
  let v409 : BitVec 1 := Scalar.xori v407 v408
  let c0_i32_189 : BitVec 32 := 0#32
  let v406 : BitVec 1 := Scalar.cmpi .ne v405 c0_i32_189
  let v410 : BitVec 1 := Scalar.andi v409 v406
  let v411 : BitVec 32 := Scalar.addi v405 v404
  let v412 : BitVec 32 := Scalar.select v410 v411 v405
  let c288_i32 : BitVec 32 := 288#32
  let c0_i32_220 : BitVec 32 := 0#32
  ![v412.toNat, 288, 0]
def k0_off44 (i : grid0.Coords) : Fin 3 → Nat :=
  let arg0 : BitVec 32 := BitVec.ofNat 32 (i 0).val
  let c1_i32_177 : BitVec 32 := 1#32
  let v383 : BitVec 32 := Scalar.addi arg0 c1_i32_177
  let c0_i32_179 : BitVec 32 := 0#32
  let v385 : BitVec 1 := Scalar.cmpi .sgt v383 c0_i32_179
  let v386 : BitVec 32 := Scalar.extui v385
  let c0_i32_180 : BitVec 32 := 0#32
  let v387 : BitVec 1 := Scalar.cmpi .slt v383 c0_i32_180
  let v388 : BitVec 32 := Scalar.extui v387
  let v389 : BitVec 32 := Scalar.subi v386 v388
  let c4_i32_178 : BitVec 32 := 4#32
  let c0_i32_181 : BitVec 32 := 0#32
  let v390 : BitVec 1 := Scalar.cmpi .sgt c4_i32_178 c0_i32_181
  let v391 : BitVec 32 := Scalar.extui v390
  let c0_i32_182 : BitVec 32 := 0#32
  let v392 : BitVec 1 := Scalar.cmpi .slt c4_i32_178 c0_i32_182
  let v393 : BitVec 32 := Scalar.extui v392
  let v394 : BitVec 32 := Scalar.subi v391 v393
  let v395 : BitVec 1 := Scalar.cmpi .ne v389 v394
  let v396 : BitVec 32 := Scalar.remsi v383 c4_i32_178
  let c0_i32_183 : BitVec 32 := 0#32
  let v397 : BitVec 1 := Scalar.cmpi .ne v396 c0_i32_183
  let v398 : BitVec 1 := Scalar.andi v395 v397
  let v384 : BitVec 32 := Scalar.divsi v383 c4_i32_178
  let c1_i32_184 : BitVec 32 := 1#32
  let v399 : BitVec 32 := Scalar.subi v384 c1_i32_184
  let v400 : BitVec 32 := Scalar.select v398 v399 v384
  let c288_i32_221 : BitVec 32 := 288#32
  let c4_i32_185 : BitVec 32 := 4#32
  let v401 : BitVec 32 := Scalar.muli v400 c4_i32_185
  let v402 : BitVec 32 := Scalar.subi v383 v401
  let c12544_i32_216 : BitVec 32 := 12544#32
  let v455 : BitVec 32 := Scalar.muli v402 c12544_i32_216
  let c256_i32_217 : BitVec 32 := 256#32
  let v456 : BitVec 32 := Scalar.subi v455 c256_i32_217
  let c0_i32_218 : BitVec 32 := 0#32
  let v457 : BitVec 32 := Scalar.maxsi v456 c0_i32_218
  let v458 : BitVec 32 := v457
  ![v400.toNat, 288, v458.toNat]
def k0_cond8 (i : grid0.Coords) : BitVec 1 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c0_i32_14 : BitVec 32 := 0#32
  let v36 : BitVec 1 := Scalar.cmpi .eq v25 c0_i32_14
  let v40 : BitVec 32 := Scalar.extui v36
  let c0_i32_15 : BitVec 32 := 0#32
  let v41 : BitVec 1 := Scalar.cmpi .ne v40 c0_i32_15
  v41

def k0_off45 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c0_i32_177 : BitVec 32 := 0#32
  ![v35.toNat, 0]
def k0_off46 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c0_i32_178 : BitVec 32 := 0#32
  let c256_i32 : BitVec 32 := 256#32
  ![v35.toNat, 0, 256]
def k0_off47 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c0_i32_179 : BitVec 32 := 0#32
  let c0_i32_180 : BitVec 32 := 0#32
  ![v23.toNat, 0, 0]
def k0_off48 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c1_i32_181 : BitVec 32 := 1#32
  ![v35.toNat, 1]
def k0_off49 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c96_i32 : BitVec 32 := 96#32
  let c256_i32_182 : BitVec 32 := 256#32
  ![v35.toNat, 96, 256]
def k0_off50 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c96_i32_183 : BitVec 32 := 96#32
  let c0_i32_184 : BitVec 32 := 0#32
  ![v23.toNat, 96, 0]
def k0_off51 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c2_i32_185 : BitVec 32 := 2#32
  ![v35.toNat, 2]
def k0_off52 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c192_i32 : BitVec 32 := 192#32
  let c256_i32_186 : BitVec 32 := 256#32
  ![v35.toNat, 192, 256]
def k0_off53 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c192_i32_187 : BitVec 32 := 192#32
  let c0_i32_188 : BitVec 32 := 0#32
  ![v23.toNat, 192, 0]
def k0_off54 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c3_i32_189 : BitVec 32 := 3#32
  ![v35.toNat, 3]
def k0_off55 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c288_i32 : BitVec 32 := 288#32
  let c256_i32_190 : BitVec 32 := 256#32
  ![v35.toNat, 288, 256]
def k0_off56 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c288_i32_191 : BitVec 32 := 288#32
  let c0_i32_192 : BitVec 32 := 0#32
  ![v23.toNat, 288, 0]
def k0_cond9 (i : grid0.Coords) : BitVec 1 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c3_i32 : BitVec 32 := 3#32
  let v37 : BitVec 1 := Scalar.cmpi .eq v25 c3_i32
  let c0_i32_14 : BitVec 32 := 0#32
  let v36 : BitVec 1 := Scalar.cmpi .eq v25 c0_i32_14
  let v_true : BitVec 1 := 1#1
  let v38 : BitVec 1 := Scalar.xori v36 v_true
  let v39 : BitVec 1 := Scalar.andi v37 v38
  let v42 : BitVec 32 := Scalar.extui v39
  let c0_i32_16 : BitVec 32 := 0#32
  let v43 : BitVec 1 := Scalar.cmpi .ne v42 c0_i32_16
  v43

def k0_mult17 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32 : BitVec 32 := 12544#32
  let v383 : BitVec 32 := Scalar.muli v25 c12544_i32
  let c256_i32 : BitVec 32 := 256#32
  let v384 : BitVec 32 := Scalar.subi v383 c256_i32
  let c0_i32_177 : BitVec 32 := 0#32
  let v385 : BitVec 32 := Scalar.maxsi v384 c0_i32_177
  v385
def k0_off57 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c0_i32_178 : BitVec 32 := 0#32
  ![v35.toNat, 0]
def k0_off58 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c0_i32_179 : BitVec 32 := 0#32
  let c0_i32_180 : BitVec 32 := 0#32
  ![v35.toNat, 0, 0]
def k0_off59 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c0_i32_181 : BitVec 32 := 0#32
  let c4_i32_8 : BitVec 32 := 4#32
  let v24 : BitVec 32 := Scalar.muli v23 c4_i32_8
  let v25 : BitVec 32 := Scalar.subi arg0 v24
  let c12544_i32 : BitVec 32 := 12544#32
  let v383 : BitVec 32 := Scalar.muli v25 c12544_i32
  let c256_i32 : BitVec 32 := 256#32
  let v384 : BitVec 32 := Scalar.subi v383 c256_i32
  let c0_i32_177 : BitVec 32 := 0#32
  let v385 : BitVec 32 := Scalar.maxsi v384 c0_i32_177
  let v386 : BitVec 32 := v385
  ![v23.toNat, 0, v386.toNat]
def k0_mult18 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32_182 : BitVec 32 := 12544#32
  let v393 : BitVec 32 := Scalar.muli v25 c12544_i32_182
  let c256_i32_183 : BitVec 32 := 256#32
  let v394 : BitVec 32 := Scalar.subi v393 c256_i32_183
  let c0_i32_184 : BitVec 32 := 0#32
  let v395 : BitVec 32 := Scalar.maxsi v394 c0_i32_184
  v395
def k0_off60 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c1_i32_185 : BitVec 32 := 1#32
  ![v35.toNat, 1]
def k0_off61 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c96_i32 : BitVec 32 := 96#32
  let c0_i32_186 : BitVec 32 := 0#32
  ![v35.toNat, 96, 0]
def k0_off62 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c96_i32_187 : BitVec 32 := 96#32
  let c4_i32_8 : BitVec 32 := 4#32
  let v24 : BitVec 32 := Scalar.muli v23 c4_i32_8
  let v25 : BitVec 32 := Scalar.subi arg0 v24
  let c12544_i32_182 : BitVec 32 := 12544#32
  let v393 : BitVec 32 := Scalar.muli v25 c12544_i32_182
  let c256_i32_183 : BitVec 32 := 256#32
  let v394 : BitVec 32 := Scalar.subi v393 c256_i32_183
  let c0_i32_184 : BitVec 32 := 0#32
  let v395 : BitVec 32 := Scalar.maxsi v394 c0_i32_184
  let v396 : BitVec 32 := v395
  ![v23.toNat, 96, v396.toNat]
def k0_mult19 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32_188 : BitVec 32 := 12544#32
  let v403 : BitVec 32 := Scalar.muli v25 c12544_i32_188
  let c256_i32_189 : BitVec 32 := 256#32
  let v404 : BitVec 32 := Scalar.subi v403 c256_i32_189
  let c0_i32_190 : BitVec 32 := 0#32
  let v405 : BitVec 32 := Scalar.maxsi v404 c0_i32_190
  v405
def k0_off63 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c2_i32_191 : BitVec 32 := 2#32
  ![v35.toNat, 2]
def k0_off64 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c192_i32 : BitVec 32 := 192#32
  let c0_i32_192 : BitVec 32 := 0#32
  ![v35.toNat, 192, 0]
def k0_off65 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c192_i32_193 : BitVec 32 := 192#32
  let c4_i32_8 : BitVec 32 := 4#32
  let v24 : BitVec 32 := Scalar.muli v23 c4_i32_8
  let v25 : BitVec 32 := Scalar.subi arg0 v24
  let c12544_i32_188 : BitVec 32 := 12544#32
  let v403 : BitVec 32 := Scalar.muli v25 c12544_i32_188
  let c256_i32_189 : BitVec 32 := 256#32
  let v404 : BitVec 32 := Scalar.subi v403 c256_i32_189
  let c0_i32_190 : BitVec 32 := 0#32
  let v405 : BitVec 32 := Scalar.maxsi v404 c0_i32_190
  let v406 : BitVec 32 := v405
  ![v23.toNat, 192, v406.toNat]
def k0_mult20 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32_194 : BitVec 32 := 12544#32
  let v413 : BitVec 32 := Scalar.muli v25 c12544_i32_194
  let c256_i32_195 : BitVec 32 := 256#32
  let v414 : BitVec 32 := Scalar.subi v413 c256_i32_195
  let c0_i32_196 : BitVec 32 := 0#32
  let v415 : BitVec 32 := Scalar.maxsi v414 c0_i32_196
  v415
def k0_off66 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c3_i32_197 : BitVec 32 := 3#32
  ![v35.toNat, 3]
def k0_off67 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c288_i32 : BitVec 32 := 288#32
  let c0_i32_198 : BitVec 32 := 0#32
  ![v35.toNat, 288, 0]
def k0_off68 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c288_i32_199 : BitVec 32 := 288#32
  let c4_i32_8 : BitVec 32 := 4#32
  let v24 : BitVec 32 := Scalar.muli v23 c4_i32_8
  let v25 : BitVec 32 := Scalar.subi arg0 v24
  let c12544_i32_194 : BitVec 32 := 12544#32
  let v413 : BitVec 32 := Scalar.muli v25 c12544_i32_194
  let c256_i32_195 : BitVec 32 := 256#32
  let v414 : BitVec 32 := Scalar.subi v413 c256_i32_195
  let c0_i32_196 : BitVec 32 := 0#32
  let v415 : BitVec 32 := Scalar.maxsi v414 c0_i32_196
  let v416 : BitVec 32 := v415
  ![v23.toNat, 288, v416.toNat]
def k0_cond10 (i : grid0.Coords) : BitVec 1 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c0_i32_14 : BitVec 32 := 0#32
  let v36 : BitVec 1 := Scalar.cmpi .eq v25 c0_i32_14
  let c3_i32 : BitVec 32 := 3#32
  let v37 : BitVec 1 := Scalar.cmpi .eq v25 c3_i32
  let v_true : BitVec 1 := 1#1
  let v38 : BitVec 1 := Scalar.xori v36 v_true
  let v39 : BitVec 1 := Scalar.andi v37 v38
  let v44 : BitVec 1 := Scalar.ori v36 v39
  let true_17 : BitVec 1 := 1#1
  let v45 : BitVec 1 := Scalar.xori v44 true_17
  let v46 : BitVec 32 := Scalar.extui v45
  let c0_i32_18 : BitVec 32 := 0#32
  let v47 : BitVec 1 := Scalar.cmpi .ne v46 c0_i32_18
  v47

def k0_mult21 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32 : BitVec 32 := 12544#32
  let v383 : BitVec 32 := Scalar.muli v25 c12544_i32
  let c256_i32 : BitVec 32 := 256#32
  let v384 : BitVec 32 := Scalar.subi v383 c256_i32
  let c0_i32_177 : BitVec 32 := 0#32
  let v385 : BitVec 32 := Scalar.maxsi v384 c0_i32_177
  v385
def k0_off69 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c0_i32_178 : BitVec 32 := 0#32
  ![v35.toNat, 0]
def k0_off70 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c0_i32_179 : BitVec 32 := 0#32
  let c0_i32_180 : BitVec 32 := 0#32
  ![v35.toNat, 0, 0]
def k0_off71 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c0_i32_181 : BitVec 32 := 0#32
  let c4_i32_8 : BitVec 32 := 4#32
  let v24 : BitVec 32 := Scalar.muli v23 c4_i32_8
  let v25 : BitVec 32 := Scalar.subi arg0 v24
  let c12544_i32 : BitVec 32 := 12544#32
  let v383 : BitVec 32 := Scalar.muli v25 c12544_i32
  let c256_i32 : BitVec 32 := 256#32
  let v384 : BitVec 32 := Scalar.subi v383 c256_i32
  let c0_i32_177 : BitVec 32 := 0#32
  let v385 : BitVec 32 := Scalar.maxsi v384 c0_i32_177
  let v386 : BitVec 32 := v385
  ![v23.toNat, 0, v386.toNat]
def k0_mult22 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32_182 : BitVec 32 := 12544#32
  let v393 : BitVec 32 := Scalar.muli v25 c12544_i32_182
  let c256_i32_183 : BitVec 32 := 256#32
  let v394 : BitVec 32 := Scalar.subi v393 c256_i32_183
  let c0_i32_184 : BitVec 32 := 0#32
  let v395 : BitVec 32 := Scalar.maxsi v394 c0_i32_184
  v395
def k0_off72 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c1_i32_185 : BitVec 32 := 1#32
  ![v35.toNat, 1]
def k0_off73 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c96_i32 : BitVec 32 := 96#32
  let c0_i32_186 : BitVec 32 := 0#32
  ![v35.toNat, 96, 0]
def k0_off74 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c96_i32_187 : BitVec 32 := 96#32
  let c4_i32_8 : BitVec 32 := 4#32
  let v24 : BitVec 32 := Scalar.muli v23 c4_i32_8
  let v25 : BitVec 32 := Scalar.subi arg0 v24
  let c12544_i32_182 : BitVec 32 := 12544#32
  let v393 : BitVec 32 := Scalar.muli v25 c12544_i32_182
  let c256_i32_183 : BitVec 32 := 256#32
  let v394 : BitVec 32 := Scalar.subi v393 c256_i32_183
  let c0_i32_184 : BitVec 32 := 0#32
  let v395 : BitVec 32 := Scalar.maxsi v394 c0_i32_184
  let v396 : BitVec 32 := v395
  ![v23.toNat, 96, v396.toNat]
def k0_mult23 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32_188 : BitVec 32 := 12544#32
  let v403 : BitVec 32 := Scalar.muli v25 c12544_i32_188
  let c256_i32_189 : BitVec 32 := 256#32
  let v404 : BitVec 32 := Scalar.subi v403 c256_i32_189
  let c0_i32_190 : BitVec 32 := 0#32
  let v405 : BitVec 32 := Scalar.maxsi v404 c0_i32_190
  v405
def k0_off75 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c2_i32_191 : BitVec 32 := 2#32
  ![v35.toNat, 2]
def k0_off76 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c192_i32 : BitVec 32 := 192#32
  let c0_i32_192 : BitVec 32 := 0#32
  ![v35.toNat, 192, 0]
def k0_off77 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c192_i32_193 : BitVec 32 := 192#32
  let c4_i32_8 : BitVec 32 := 4#32
  let v24 : BitVec 32 := Scalar.muli v23 c4_i32_8
  let v25 : BitVec 32 := Scalar.subi arg0 v24
  let c12544_i32_188 : BitVec 32 := 12544#32
  let v403 : BitVec 32 := Scalar.muli v25 c12544_i32_188
  let c256_i32_189 : BitVec 32 := 256#32
  let v404 : BitVec 32 := Scalar.subi v403 c256_i32_189
  let c0_i32_190 : BitVec 32 := 0#32
  let v405 : BitVec 32 := Scalar.maxsi v404 c0_i32_190
  let v406 : BitVec 32 := v405
  ![v23.toNat, 192, v406.toNat]
def k0_mult24 (i : grid0.Coords) : BitVec 32 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c4_i32_8 : BitVec 32 := 4#32
  let v24 : BitVec 32 := Scalar.muli v23 c4_i32_8
  let v25 : BitVec 32 := Scalar.subi arg0 v24
  let c12544_i32_194 : BitVec 32 := 12544#32
  let v413 : BitVec 32 := Scalar.muli v25 c12544_i32_194
  let c256_i32_195 : BitVec 32 := 256#32
  let v414 : BitVec 32 := Scalar.subi v413 c256_i32_195
  let c0_i32_196 : BitVec 32 := 0#32
  let v415 : BitVec 32 := Scalar.maxsi v414 c0_i32_196
  v415
def k0_off78 (i : grid0.Coords) : Fin 2 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c3_i32_197 : BitVec 32 := 3#32
  ![v35.toNat, 3]
def k0_off79 (i : grid0.Coords) : Fin 3 → Nat :=
  let arg0 : BitVec 32 := BitVec.ofNat 32 (i 0).val
  let c2_i32 : BitVec 32 := 2#32
  let c0_i32_9 : BitVec 32 := 0#32
  let v26 : BitVec 1 := Scalar.cmpi .eq c2_i32 c0_i32_9
  let c1_i32_10 : BitVec 32 := 1#32
  let v27 : BitVec 32 := Scalar.select v26 c1_i32_10 c2_i32
  let v28 : BitVec 32 := Scalar.remsi arg0 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c288_i32 : BitVec 32 := 288#32
  let c0_i32_198 : BitVec 32 := 0#32
  ![v35.toNat, 288, 0]
def k0_off80 (i : grid0.Coords) : Fin 3 → Nat :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .slt arg0 c0_i32_3
  let v11 : BitVec 32 := Scalar.extui v10
  let v12 : BitVec 32 := Scalar.subi v9 v11
  let c4_i32 : BitVec 32 := 4#32
  let c0_i32_4 : BitVec 32 := 0#32
  let v13 : BitVec 1 := Scalar.cmpi .sgt c4_i32 c0_i32_4
  let v14 : BitVec 32 := Scalar.extui v13
  let c0_i32_5 : BitVec 32 := 0#32
  let v15 : BitVec 1 := Scalar.cmpi .slt c4_i32 c0_i32_5
  let v16 : BitVec 32 := Scalar.extui v15
  let v17 : BitVec 32 := Scalar.subi v14 v16
  let v18 : BitVec 1 := Scalar.cmpi .ne v12 v17
  let v19 : BitVec 32 := Scalar.remsi arg0 c4_i32
  let c0_i32_6 : BitVec 32 := 0#32
  let v20 : BitVec 1 := Scalar.cmpi .ne v19 c0_i32_6
  let v21 : BitVec 1 := Scalar.andi v18 v20
  let v7 : BitVec 32 := Scalar.divsi arg0 c4_i32
  let c1_i32_7 : BitVec 32 := 1#32
  let v22 : BitVec 32 := Scalar.subi v7 c1_i32_7
  let v23 : BitVec 32 := Scalar.select v21 v22 v7
  let c288_i32_199 : BitVec 32 := 288#32
  let c4_i32_8 : BitVec 32 := 4#32
  let v24 : BitVec 32 := Scalar.muli v23 c4_i32_8
  let v25 : BitVec 32 := Scalar.subi arg0 v24
  let c12544_i32_194 : BitVec 32 := 12544#32
  let v413 : BitVec 32 := Scalar.muli v25 c12544_i32_194
  let c256_i32_195 : BitVec 32 := 256#32
  let v414 : BitVec 32 := Scalar.subi v413 c256_i32_195
  let c0_i32_196 : BitVec 32 := 0#32
  let v415 : BitVec 32 := Scalar.maxsi v414 c0_i32_196
  let v416 : BitVec 32 := v415
  ![v23.toNat, 288, v416.toNat]
def k0_off81 (i : grid0.Coords) : Fin 3 → Nat :=
  let arg0 : BitVec 32 := BitVec.ofNat 32 (i 0).val
  let c2_i32_19 : BitVec 32 := 2#32
  let c0_i32_20 : BitVec 32 := 0#32
  let v48 : BitVec 1 := Scalar.cmpi .eq c2_i32_19 c0_i32_20
  let c1_i32_21 : BitVec 32 := 1#32
  let v49 : BitVec 32 := Scalar.select v48 c1_i32_21 c2_i32_19
  let v50 : BitVec 32 := Scalar.remsi arg0 v49
  let c0_i32_23 : BitVec 32 := 0#32
  let v52 : BitVec 1 := Scalar.cmpi .slt v50 c0_i32_23
  let c0_i32_24 : BitVec 32 := 0#32
  let v53 : BitVec 1 := Scalar.cmpi .slt v49 c0_i32_24
  let v54 : BitVec 1 := Scalar.xori v52 v53
  let c0_i32_22 : BitVec 32 := 0#32
  let v51 : BitVec 1 := Scalar.cmpi .ne v50 c0_i32_22
  let v55 : BitVec 1 := Scalar.andi v54 v51
  let v56 : BitVec 32 := Scalar.addi v50 v49
  let v57 : BitVec 32 := Scalar.select v55 v56 v50
  let v58 : Index := Scalar.indexCast v57
  let c0 : Index := 0#32
  let c0_25 : Index := 0#32
  ![v58.toNat, 0, 0]
def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x12544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x12544 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x384x224x224 : Shape := ⟨4, ![2, 384, 224, 224]⟩
abbrev S2x64x224x224 : Shape := ⟨4, ![2, 64, 224, 224]⟩
abbrev S64x384x3x3 : Shape := ⟨4, ![64, 384, 3, 3]⟩
abbrev S_ : Shape := ⟨0, ![]⟩
abbrev S2x384x226x226 : Shape := ⟨4, ![2, 384, 226, 226]⟩
abbrev S64x384x1x1 : Shape := ⟨4, ![64, 384, 1, 1]⟩
abbrev S64x384 : Shape := ⟨2, ![64, 384]⟩
abbrev S2x224x224x64 : Shape := ⟨4, ![2, 224, 224, 64]⟩
abbrev S2x224x224x8 : Shape := ⟨4, ![2, 224, 224, 8]⟩
abbrev S2x224x224x8x1 : Shape := ⟨5, ![2, 224, 224, 8, 1]⟩
abbrev S1 : Shape := ⟨1, ![1]⟩
abbrev S1x1x1x1x1 : Shape := ⟨5, ![1, 1, 1, 1, 1]⟩
abbrev S2x8x224x224 : Shape := ⟨4, ![2, 8, 224, 224]⟩

abbrev nBuf : Space → Nat
  | .hbm => 92
  | .vmem => 0
  | .smem => 0
  | _ => 0

abbrev bufTy : (tb : Table) → Fin (tcTables nBuf tb) → BufTy
  | .hbm, ⟨0, _⟩ => ⟨S2x384x224x224, .f32⟩
  | .hbm, ⟨1, _⟩ => ⟨S2x64x224x224, .f32⟩
  | .hbm, ⟨2, _⟩ => ⟨S64x384x3x3, .f32⟩
  | .hbm, ⟨3, _⟩ => ⟨S_, .i32⟩
  | .hbm, ⟨4, _⟩ => ⟨S_, .f32⟩
  | .hbm, ⟨5, _⟩ => ⟨S2x384x226x226, .f32⟩
  | .hbm, ⟨6, _⟩ => ⟨S_, .f32⟩
  | .hbm, ⟨7, _⟩ => ⟨S2x64x224x224, .f32⟩
  | .hbm, ⟨8, _⟩ => ⟨S64x384x1x1, .f32⟩
  | .hbm, ⟨9, _⟩ => ⟨S64x384, .f32⟩
  | .hbm, ⟨10, _⟩ => ⟨S2x384x224x224, .f32⟩
  | .hbm, ⟨11, _⟩ => ⟨S2x224x224x64, .f32⟩
  | .hbm, ⟨12, _⟩ => ⟨S2x64x224x224, .f32⟩
  | .hbm, ⟨13, _⟩ => ⟨S2x64x224x224, .f32⟩
  | .hbm, ⟨14, _⟩ => ⟨S64x384x1x1, .f32⟩
  | .hbm, ⟨15, _⟩ => ⟨S64x384, .f32⟩
  | .hbm, ⟨16, _⟩ => ⟨S2x384x224x224, .f32⟩
  | .hbm, ⟨17, _⟩ => ⟨S2x224x224x64, .f32⟩
  | .hbm, ⟨18, _⟩ => ⟨S2x64x224x224, .f32⟩
  | .hbm, ⟨19, _⟩ => ⟨S2x64x224x224, .f32⟩
  | .hbm, ⟨20, _⟩ => ⟨S64x384x1x1, .f32⟩
  | .hbm, ⟨21, _⟩ => ⟨S64x384, .f32⟩
  | .hbm, ⟨22, _⟩ => ⟨S2x384x224x224, .f32⟩
  | .hbm, ⟨23, _⟩ => ⟨S2x224x224x64, .f32⟩
  | .hbm, ⟨24, _⟩ => ⟨S2x64x224x224, .f32⟩
  | .hbm, ⟨25, _⟩ => ⟨S2x64x224x224, .f32⟩
  | .hbm, ⟨26, _⟩ => ⟨S64x384x1x1, .f32⟩
  | .hbm, ⟨27, _⟩ => ⟨S64x384, .f32⟩
  | .hbm, ⟨28, _⟩ => ⟨S2x384x224x224, .f32⟩
  | .hbm, ⟨29, _⟩ => ⟨S2x224x224x64, .f32⟩
  | .hbm, ⟨30, _⟩ => ⟨S2x64x224x224, .f32⟩
  | .hbm, ⟨31, _⟩ => ⟨S2x64x224x224, .f32⟩
  | .hbm, ⟨32, _⟩ => ⟨S64x384x1x1, .f32⟩
  | .hbm, ⟨33, _⟩ => ⟨S64x384, .f32⟩
  | .hbm, ⟨34, _⟩ => ⟨S2x384x224x224, .f32⟩
  | .hbm, ⟨35, _⟩ => ⟨S2x224x224x64, .f32⟩
  | .hbm, ⟨36, _⟩ => ⟨S2x64x224x224, .f32⟩
  | .hbm, ⟨37, _⟩ => ⟨S2x64x224x224, .f32⟩
  | .hbm, ⟨38, _⟩ => ⟨S64x384x1x1, .f32⟩
  | .hbm, ⟨39, _⟩ => ⟨S64x384, .f32⟩
  | .hbm, ⟨40, _⟩ => ⟨S2x384x224x224, .f32⟩
  | .hbm, ⟨41, _⟩ => ⟨S2x224x224x64, .f32⟩
  | .hbm, ⟨42, _⟩ => ⟨S2x64x224x224, .f32⟩
  | .hbm, ⟨43, _⟩ => ⟨S2x64x224x224, .f32⟩
  | .hbm, ⟨44, _⟩ => ⟨S64x384x1x1, .f32⟩
  | .hbm, ⟨45, _⟩ => ⟨S64x384, .f32⟩
  | .hbm, ⟨46, _⟩ => ⟨S2x384x224x224, .f32⟩
  | .hbm, ⟨47, _⟩ => ⟨S2x224x224x64, .f32⟩
  | .hbm, ⟨48, _⟩ => ⟨S2x64x224x224, .f32⟩
  | .hbm, ⟨49, _⟩ => ⟨S2x64x224x224, .f32⟩
  | .hbm, ⟨50, _⟩ => ⟨S64x384x1x1, .f32⟩
  | .hbm, ⟨51, _⟩ => ⟨S64x384, .f32⟩
  | .hbm, ⟨52, _⟩ => ⟨S2x384x224x224, .f32⟩
  | .hbm, ⟨53, _⟩ => ⟨S2x224x224x64, .f32⟩
  | .hbm, ⟨54, _⟩ => ⟨S2x64x224x224, .f32⟩
  | .hbm, ⟨55, _⟩ => ⟨S2x64x224x224, .f32⟩
  | .hbm, ⟨56, _⟩ => ⟨S64x384x1x1, .f32⟩
  | .hbm, ⟨57, _⟩ => ⟨S64x384, .f32⟩
  | .hbm, ⟨58, _⟩ => ⟨S2x384x224x224, .f32⟩
  | .hbm, ⟨59, _⟩ => ⟨S2x224x224x64, .f32⟩
  | .hbm, ⟨60, _⟩ => ⟨S2x64x224x224, .f32⟩
  | .hbm, ⟨61, _⟩ => ⟨S2x64x224x224, .f32⟩
  | .hbm, ⟨62, _⟩ => ⟨S2x224x224x64, .f32⟩
  | .hbm, ⟨63, _⟩ => ⟨S2x224x224x8, .f32⟩
  | .hbm, ⟨64, _⟩ => ⟨S2x224x224x8, .i32⟩
  | .hbm, ⟨65, _⟩ => ⟨S2x224x224x64, .f32⟩
  | .hbm, ⟨66, _⟩ => ⟨S_, .i32⟩
  | .hbm, ⟨67, _⟩ => ⟨S2x224x224x8, .i32⟩
  | .hbm, ⟨68, _⟩ => ⟨S2x224x224x8, .i1⟩
  | .hbm, ⟨69, _⟩ => ⟨S_, .i32⟩
  | .hbm, ⟨70, _⟩ => ⟨S2x224x224x8, .i32⟩
  | .hbm, ⟨71, _⟩ => ⟨S2x224x224x8, .i32⟩
  | .hbm, ⟨72, _⟩ => ⟨S2x224x224x8, .i32⟩
  | .hbm, ⟨73, _⟩ => ⟨S2x224x224x8x1, .i32⟩
  | .hbm, ⟨74, _⟩ => ⟨S1, .i32⟩
  | .hbm, ⟨75, _⟩ => ⟨S_, .i32⟩
  | .hbm, ⟨76, _⟩ => ⟨S2x224x224x8x1, .i32⟩
  | .hbm, ⟨77, _⟩ => ⟨S2x224x224x8x1, .i1⟩
  | .hbm, ⟨78, _⟩ => ⟨S1x1x1x1x1, .i32⟩
  | .hbm, ⟨79, _⟩ => ⟨S2x224x224x8x1, .i32⟩
  | .hbm, ⟨80, _⟩ => ⟨S2x224x224x8x1, .i1⟩
  | .hbm, ⟨81, _⟩ => ⟨S2x224x224x8x1, .i1⟩
  | .hbm, ⟨82, _⟩ => ⟨S_, .i1⟩
  | .hbm, ⟨83, _⟩ => ⟨S2x224x224x8, .i1⟩
  | .hbm, ⟨84, _⟩ => ⟨S2x224x224x8, .f32⟩
  | .hbm, ⟨85, _⟩ => ⟨S_, .f32⟩
  | .hbm, ⟨86, _⟩ => ⟨S2x224x224x8, .f32⟩
  | .hbm, ⟨87, _⟩ => ⟨S2x224x224x8, .f32⟩
  | .hbm, ⟨88, _⟩ => ⟨S2x224x224x8, .f32⟩
  | .hbm, ⟨89, _⟩ => ⟨S2x8x224x224, .f32⟩
  | .hbm, ⟨90, _⟩ => ⟨S2x8x224x224, .f32⟩
  | .hbm, ⟨91, _⟩ => ⟨S2x8x224x224, .i32⟩
  | _, _ => ⟨S2x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_values : Ref sig .tc := ⟨.hbm, 63, rfl⟩
abbrev main_indices : Ref sig .tc := ⟨.hbm, 64, rfl⟩
abbrev main_v57 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_cst : Ref sig .tc := ⟨.hbm, 85, rfl⟩
abbrev main_call1_v14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Proof.Slots.lean ====
/-
  Hand-written. The two-slot buffer of input rows and its eight transfer cells: the eight parts of the buffer the
  transfers fill, what a transfer delivers, and the two steps — starting a transfer, waiting for it — each stated
  once for every chunk of every grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The input left in HBM, the two-slot buffer, and the buffer of tap products. -/
abbrev xM : Memref sig .tc .hbm S2x384x50176 .f32 := Memref.whole main_v0
abbrev bM : Memref sig .tc .vmem S2x384x13056 .f32 := Memref.whole cc0_scratch0
abbrev pM : Memref sig .tc .vmem S576x13056 .f32 := Memref.whole cc0_scratch1

/-- The transfer cell of slot `s`, chunk `i`: the pool's cells from 9 on, in row-major order. -/
def cell (s i : ℕ) : DmaSem sig := Fin.ofNat 17 (9 + 4 * s + i)

/-- The part of the two-slot buffer that slot `s`'s chunk `i` occupies: 96 channels. -/
def reg (s i : ℕ) : Finset S2x384x13056.Idx :=
  Finset.univ.filter fun p => (p 0).val = s ∧ 96 * i ≤ (p 1).val ∧ (p 1).val < 96 * i + 96

theorem mem_reg {s i : ℕ} {p : S2x384x13056.Idx} :
    p ∈ reg s i ↔ (p 0).val = s ∧ 96 * i ≤ (p 1).val ∧ (p 1).val < 96 * i + 96 := by
  simp [reg]

/-- What chunk `i` of the transfer for point `t` leaves in its part: at every column that stands for an input column,
    the input's value there. Column `p` of the slab stands for flat column `(t % 4) * 12544 + p - 256`. -/
def Landed (t i : ℕ) (fx : S2x384x50176.Idx → Elt F .f32) (f : S2x384x13056.Idx → Elt F .f32) : Prop :=
  ∀ (p : S2x384x13056.Idx) (q : S2x384x50176.Idx), p ∈ reg (t % 2) i →
    (q 0).val = t / 4 → (q 1).val = (p 1).val → (q 2).val + 256 = (t % 4) * 12544 + (p 2).val → f p = fx q

/-- The read share of the input that slot `s`'s chunk `i` borrows. -/
abbrev qx (s i : ℕ) : PosShare TreeShare := Transfers.shareTok fullShare 8 (Fin.ofNat 8 (4 * s + i))

abbrev EC : UEmb Counters 𝕄 := countersEmb (U := Pipeline.UD sig nD τ)

/-- A chunk of a slot with no transfer under way. -/
def Idle (c : Dev nD) (fx : S2x384x50176.Idx → Elt F .f32) (s i : ℕ) : sProp 𝕄 :=
  iprop((∃ f : S2x384x13056.Idx → Elt F .f32, bM.view.loc (c : Thread nD τ) ↦[reg s i]{fullShare} f)
    ∗ semVal ((c : Thread nD τ), SemLoc.dma (cell s i)) 0 ∗ xM.view.loc (c : Thread nD τ) ↦{qx s i} fx)

/-- A chunk of a slot whose transfer, for point `t`, has landed and been waited for. -/
def Full (c : Dev nD) (fx : S2x384x50176.Idx → Elt F .f32) (t i : ℕ) : sProp 𝕄 :=
  iprop((∃ f : S2x384x13056.Idx → Elt F .f32, ⌜Landed t i fx f⌝ ∗ bM.view.loc (c : Thread nD τ) ↦[reg (t % 2) i]{fullShare} f)
    ∗ semVal ((c : Thread nD τ), SemLoc.dma (cell (t % 2) i)) 0 ∗ xM.view.loc (c : Thread nD τ) ↦{qx (t % 2) i} fx)

/-- The amount its cell counts, in granules. -/
def amt (t : ℕ) : ℕ := if t % 4 = 0 ∨ t % 4 = 3 then
    bM.view.ref.dmaCredit S96x12800 .f32 else bM.view.ref.dmaCredit S96x13056 .f32

/-- A chunk whose transfer, for point `t`, is under way. -/
def Fly (c : Dev nD) (fx : S2x384x50176.Idx → Elt F .f32) (t i : ℕ) : sProp 𝕄 :=
  iprop(∃ S : Finset S2x384x50176.Idx,
    Transfers.Flight EC (c : Thread nD τ) (SemLoc.dma (cell (t % 2) i)) () (amt t)
      iprop((∃ f : S2x384x13056.Idx → Elt F .f32, ⌜Landed t i fx f⌝ ∗ bM.view.loc (c : Thread nD τ) ↦[reg (t % 2) i]{fullShare} f)
        ∗ xM.view.loc (c : Thread nD τ) ↦[S]{qx (t % 2) i} fx)
    ∗ xM.view.loc (c : Thread nD τ) ↦[Finset.univ \ S]{qx (t % 2) i} fx)

theorem full_idle (c : Dev nD) (fx : S2x384x50176.Idx → Elt F .f32) (t i : ℕ) : (Full c fx t i : sProp 𝕄) ⊢ Idle c fx (t % 2) i := by
  unfold Full Idle
  iintro ⟨⟨%f, -, Hb⟩, Hs, Hx⟩
  isplitl [Hb]
  · iexists f; iexact Hb
  isplitl [Hs] <;> iassumption

/-- A window of one row-block of the buffer, or of the input: what its placement does to an index. -/
theorem emb_window {sp : Space} {S : Shape} {e : EltTy} (M : Memref sig .tc sp S e) (r : Rect S) (hr : ∀ a, r.stride a = 1) (s' : Shape) (h : r.shape.Squeezes s') (y : r.shape.Idx) :
    ((M.slice r hr).squeeze s' h).view.emb ((Shape.reshapeEquiv h.numel_eq).symm y) = M.view.emb (r.emb y) := by
  show M.view.emb (r.emb (Shape.reshapeEquiv h.numel_eq ((Shape.reshapeEquiv h.numel_eq).symm y))) = _
  rw [Equiv.apply_symm_apply]

/-- The cell a printed transfer names, from its offsets. -/
theorem cell_eq {s i : ℕ} {o : Fin 2 → Nat} (ho : o = ![s, i]) (hs : s < 2) (hi : i < 4)
    (h : ∀ a, o a + S1x1.size a ≤ S2x4.size a) :
    ((cc0_scratch2.slice (Rect.unit (s := S2x4) o S1x1.size h)).squeeze S_ squeezes_S1x1_S_).sem = cell s i := by
  subst ho
  have hs' : s = 0 ∨ s = 1 := by omega
  have hi' : i = 0 ∨ i = 1 ∨ i = 2 ∨ i = 3 := by omega
  rcases hs' with rfl | rfl <;> rcases hi' with rfl | rfl | rfl | rfl <;> (apply Fin.ext; decide +kernel +revert)

/-- What a landed window of 96 channels by `n` columns leaves in the buffer. -/
theorem landed_of {t i n lo base : ℕ} (hi : i < 4) {od : Fin 3 → Nat} {os : Fin 3 → Nat}
    (hod : od = ![t % 2, 96 * i, lo]) (hos : os = ![t / 4, 96 * i, base])
    (hgeo : ∀ k col : ℕ, k < 50176 → col < 13056 → k + 256 = (t % 4) * 12544 + col → lo ≤ col ∧ col < lo + n ∧ base + col = k + lo)
    (hd : ∀ a, od a + (⟨3, ![1, 96, n]⟩ : Shape).size a ≤ S2x384x13056.size a)
    (hs : ∀ a, os a + (⟨3, ![1, 96, n]⟩ : Shape).size a ≤ S2x384x50176.size a)
    (hq : (⟨3, ![1, 96, n]⟩ : Shape).Squeezes ⟨2, ![96, n]⟩)
    (fx : S2x384x50176.Idx → Elt F .f32) (fd : S2x384x13056.Idx → Elt F .f32) :
    Landed t i fx (((bM.slice (Rect.unit (s := S2x384x13056) od (⟨3, ![1, 96, n]⟩ : Shape).size hd) (fun _ => rfl)).squeeze ⟨2, ![96, n]⟩ hq).view.write (Elt F) fd
      (((xM.slice (Rect.unit (s := S2x384x50176) os (⟨3, ![1, 96, n]⟩ : Shape).size hs) (fun _ => rfl)).squeeze ⟨2, ![96, n]⟩ hq).view.read (Elt F) fx) Finset.univ) := by
  subst hod hos
  intro p q hp h0 h1 h2
  obtain ⟨hp0, hp1, hp2⟩ := mem_reg.mp hp
  obtain ⟨g1, g2, g3⟩ := hgeo (q 2).val (p 2).val (q 2).isLt (p 2).isLt h2
  let y : (⟨3, ![1, 96, n]⟩ : Shape).Idx := fun a => match a with
    | ⟨0, _⟩ => ⟨0, by show 0 < 1; omega⟩
    | ⟨1, _⟩ => ⟨(p 1).val - 96 * i, by show _ < 96; omega⟩
    | ⟨2, _⟩ => ⟨(p 2).val - lo, by show _ < n; omega⟩
  have ed : (Rect.unit (s := S2x384x13056) ![t % 2, 96 * i, lo] (⟨3, ![1, 96, n]⟩ : Shape).size hd).emb y = p := by
    funext a; apply Fin.ext
    match a with
    | ⟨0, _⟩ => show t % 2 + 1 * 0 = (p 0).val; omega
    | ⟨1, _⟩ => show 96 * i + 1 * ((p 1).val - 96 * i) = (p 1).val; omega
    | ⟨2, _⟩ => show lo + 1 * ((p 2).val - lo) = (p 2).val; omega
  have es : (Rect.unit (s := S2x384x50176) ![t / 4, 96 * i, base] (⟨3, ![1, 96, n]⟩ : Shape).size hs).emb y = q := by
    funext a; apply Fin.ext
    match a with
    | ⟨0, _⟩ => show t / 4 + 1 * 0 = (q 0).val; omega
    | ⟨1, _⟩ => show 96 * i + 1 * ((p 1).val - 96 * i) = (q 1).val; omega
    | ⟨2, _⟩ => show base + 1 * ((p 2).val - lo) = (q 2).val; omega
  have hpd := emb_window bM (Rect.unit (s := S2x384x13056) ![t % 2, 96 * i, lo] (⟨3, ![1, 96, n]⟩ : Shape).size hd) (fun _ => rfl) _ hq y
  have hqs := emb_window xM (Rect.unit (s := S2x384x50176) ![t / 4, 96 * i, base] (⟨3, ![1, 96, n]⟩ : Shape).size hs) (fun _ => rfl) _ hq y
  rw [ed] at hpd
  rw [es] at hqs
  have hw := View.write_emb_of_mem (Val := Elt F) (v := ((bM.slice (Rect.unit (s := S2x384x13056) ![t % 2, 96 * i, lo] (⟨3, ![1, 96, n]⟩ : Shape).size hd) (fun _ => rfl)).squeeze ⟨2, ![96, n]⟩ hq).view) fd
    (((xM.slice (Rect.unit (s := S2x384x50176) ![t / 4, 96 * i, base] (⟨3, ![1, 96, n]⟩ : Shape).size hs) (fun _ => rfl)).squeeze ⟨2, ![96, n]⟩ hq).view.read (Elt F) fx) (M := Finset.univ) (Finset.mem_univ ((Shape.reshapeEquiv hq.numel_eq).symm y))
  rw [hpd] at hw
  refine hw.trans ?_
  rw [View.read_apply, hqs]
  rfl

/-- The window a transfer fills lies in its chunk's part. -/
theorem window_sub {s i n lo : ℕ} {od : Fin 3 → Nat} (hod : od = ![s, 96 * i, lo])
    (hd : ∀ a, od a + (⟨3, ![1, 96, n]⟩ : Shape).size a ≤ S2x384x13056.size a)
    (hq : (⟨3, ![1, 96, n]⟩ : Shape).Squeezes ⟨2, ![96, n]⟩) :
    ((bM.slice (Rect.unit (s := S2x384x13056) od (⟨3, ![1, 96, n]⟩ : Shape).size hd) (fun _ => rfl)).squeeze ⟨2, ![96, n]⟩ hq).view.set ⊆ reg s i := by
  subst hod
  intro p hp
  simp only [Memref.squeeze, Memref.slice, View.set_reshape, Memref.whole, View.set_slice_whole] at hp
  have := Rect.mem_set_unit.mp hp
  have h0 := this 0
  have h1 := this 1
  simp at h0 h1
  exact mem_reg.mpr ⟨by omega, by omega, by omega⟩

variable {Λ : Labels} {defs : Defs nD τ sig (Elt F) Λ} (𝒱 : Variants) (c : Dev nD) (bd : Option 𝒱.V)

/-- Starting chunk `i`'s transfer for point `t`. -/
theorem wp_start {α : Type} {Q : α → sProp 𝕄} {t i n lo base : ℕ} (fx : S2x384x50176.Idx → Elt F .f32) (ht : t % 2 < 2) (hi : i < 4)
    {od os : Fin 3 → Nat} {om : Fin 2 → Nat}
    (hod : od = ![t % 2, 96 * i, lo]) (hos : os = ![t / 4, 96 * i, base]) (hom : om = ![t % 2, i])
    (hgeo : ∀ k col : ℕ, k < 50176 → col < 13056 → k + 256 = (t % 4) * 12544 + col → lo ≤ col ∧ col < lo + n ∧ base + col = k + lo)
    (hd : ∀ a, od a + (⟨3, ![1, 96, n]⟩ : Shape).size a ≤ S2x384x13056.size a)
    (hs : ∀ a, os a + (⟨3, ![1, 96, n]⟩ : Shape).size a ≤ S2x384x50176.size a)
    (hm : ∀ a, om a + S1x1.size a ≤ S2x4.size a)
    (hq : (⟨3, ![1, 96, n]⟩ : Shape).Squeezes ⟨2, ![96, n]⟩)
    (hamt : bM.view.ref.dmaCredit ⟨2, ![96, n]⟩ .f32 = amt t)
    (hn : 0 < n)
    {w1 w2 w3}
    {k : PUnit → Prog (TpuEff nD τ sig (Elt F) Λ .tc) α} :
    (Idle c fx (t % 2) i : sProp 𝕄)
      ⊢ iprop((Fly c fx t i -∗ wp frame (wpE defs 𝒱 (c : Thread nD τ) bd) Set.univ (k ⟨⟩) Q)
          -∗ wp frame (wpE defs 𝒱 (c : Thread nD τ) bd) Set.univ
            (.op (.enqueueDma ((xM.slice (Rect.unit (s := S2x384x50176) os (⟨3, ![1, 96, n]⟩ : Shape).size hs) (fun _ => rfl)).squeeze ⟨2, ![96, n]⟩ hq)
              (.here ((bM.slice (Rect.unit (s := S2x384x13056) od (⟨3, ![1, 96, n]⟩ : Shape).size hd) (fun _ => rfl)).squeeze ⟨2, ![96, n]⟩ hq))
              (.dma ((cc0_scratch2.slice (Rect.unit (s := S2x4) om S1x1.size hm)).squeeze S_ squeezes_S1x1_S_).sem) w1 w2 w3) k) Q) := by
  have hcell := cell_eq hom ht hi hm
  have hN0 : 0 < amt t := by unfold amt; split <;> decide +kernel
  have hN : ((bM.slice (Rect.unit (s := S2x384x13056) od (⟨3, ![1, 96, n]⟩ : Shape).size hd) (fun _ => rfl)).squeeze ⟨2, ![96, n]⟩ hq).view.amount
      (SemLoc.dma ((cc0_scratch2.slice (Rect.unit (s := S2x4) om S1x1.size hm)).squeeze S_ squeezes_S1x1_S_).sem) = amt t := hamt
  unfold Idle
  iintro ⟨⟨%f, Hb⟩, Hs, Hx⟩ Hk
  ihave Hx' := (pointsTo_split_subset (Finset.subset_univ ((xM.slice (Rect.unit (s := S2x384x50176) os (⟨3, ![1, 96, n]⟩ : Shape).size hs) (fun _ => rfl)).squeeze ⟨2, ![96, n]⟩ hq).view.set)) $$ Hx
  icases Hx' with ⟨Hx1, Hx2⟩
  rw [← hcell]
  iapply (Transfers.wp_dmaLocal EC 𝒱 (c : Thread nD τ) bd () (amt t) hN hN0 (window_sub hod hd hq)) $$ [Hx1 Hb Hs]
  · isplitl [Hx1]; · iexact Hx1
    isplitl [Hb]; · iexact Hb
    iexact Hs
  iintro HF
  iapply Hk
  unfold Fly
  iexists _
  rw [← hcell]
  isplitl [HF]
  · iapply (Transfers.Flight_mono ?_) $$ HF
    iintro ⟨Hb, Hx⟩
    isplitl [Hb]
    · iexists _
      isplitr
      rotate_left
      · iexact Hb
      · ipureintro
        exact landed_of hi hod hos hgeo hd hs hq fx f
    · iexact Hx
  · iexact Hx2

/-- Waiting for chunk `i`'s transfer for point `t`. -/
theorem wp_await {α : Type} {Q : α → sProp 𝕄} {t i n : ℕ} (fx : S2x384x50176.Idx → Elt F .f32) (ht : t % 2 < 2) (hi : i < 4)
    {od os : Fin 3 → Nat} {om : Fin 2 → Nat} (hom : om = ![t % 2, i])
    (hd : ∀ a, od a + (⟨3, ![1, 96, n]⟩ : Shape).size a ≤ S2x384x13056.size a)
    (hs : ∀ a, os a + (⟨3, ![1, 96, n]⟩ : Shape).size a ≤ S2x384x50176.size a)
    (hm : ∀ a, om a + S1x1.size a ≤ S2x4.size a)
    (hq : (⟨3, ![1, 96, n]⟩ : Shape).Squeezes ⟨2, ![96, n]⟩)
    (hamt : bM.view.ref.dmaCredit ⟨2, ![96, n]⟩ .f32 = amt t)
    {w1 w2} {W : Waits sig Unit}
    {k : PUnit → Prog (TpuEff nD τ sig (Elt F) Λ .tc) α} :
    iprop(Fly c fx t i ∗ owes (c : Thread nD τ) 0 W : sProp 𝕄)
      ⊢ iprop((iprop(Full c fx t i ∗ owes (c : Thread nD τ) 0 (insert (SemLoc.dma (cell (t % 2) i), ()) W)) -∗ wp frame (wpE defs 𝒱 (c : Thread nD τ) bd) Set.univ (k ⟨⟩) Q)
          -∗ wp frame (wpE defs 𝒱 (c : Thread nD τ) bd) Set.univ
            (.op (.waitDma2 ((cc0_scratch2.slice (Rect.unit (s := S2x4) om S1x1.size hm)).squeeze S_ squeezes_S1x1_S_).sem
              ((xM.slice (Rect.unit (s := S2x384x50176) os (⟨3, ![1, 96, n]⟩ : Shape).size hs) (fun _ => rfl)).squeeze ⟨2, ![96, n]⟩ hq)
              ((bM.slice (Rect.unit (s := S2x384x13056) od (⟨3, ![1, 96, n]⟩ : Shape).size hd) (fun _ => rfl)).squeeze ⟨2, ![96, n]⟩ hq) w1 w2) k) Q) := by
  have hcell := cell_eq hom ht hi hm
  unfold Fly Full
  rw [← hcell]
  iintro ⟨⟨%S, HF, Hx2⟩, HO⟩ Hk
  iapply (Transfers.wp_waitLocal EC 𝒱 (c : Thread nD τ) bd () hamt) $$ [HF HO]
  · isplitl [HF] <;> iassumption
  iintro ⟨⟨Hb, Hx1⟩, Hs, HO⟩
  iapply Hk
  isplitr [HO]
  · isplitl [Hb]; · iexact Hb
    isplitl [Hs]; · iexact Hs
    iapply (pointsTo_split_subset (Finset.subset_univ S))
    isplitl [Hx1] <;> iassumption
  · iexact HO

end Cert.KernelIdeal.Hand

end
end
-- ==== Proof.Prologue.lean ====
/-
  Hand-written. The first part of the kernel's body at a grid point: it starts the next point's transfers, waits for
  its own and loads the slab. The invariant `ring` says which of the two slots has transfers under way before a point.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem cond1_iff : ∀ i : grid0.Coords, k0_cond1 i = 1#1 ↔ (i 0).val = 0 := by decide +kernel
theorem cond2_ne : ¬ k0_cond2 = 1#1 := by decide +kernel
theorem cond3_ne : ¬ k0_cond3 = 1#1 := by decide +kernel
theorem cond4_iff : ∀ i : grid0.Coords, k0_cond4 i = 1#1 ↔ (i 0).val + 1 < 8 := by decide +kernel
theorem cond5_iff : ∀ i : grid0.Coords, k0_cond5 i = 1#1 ↔ ((i 0).val + 1) % 4 = 0 := by decide +kernel
theorem cond6_iff : ∀ i : grid0.Coords, k0_cond6 i = 1#1 ↔ ((i 0).val + 1) % 4 = 3 := by decide +kernel
theorem cond7_iff : ∀ i : grid0.Coords, k0_cond7 i = 1#1 ↔ (((i 0).val + 1) % 4 = 1 ∨ ((i 0).val + 1) % 4 = 2) := by decide +kernel
theorem cond8_iff : ∀ i : grid0.Coords, k0_cond8 i = 1#1 ↔ (i 0).val % 4 = 0 := by decide +kernel
theorem cond9_iff : ∀ i : grid0.Coords, k0_cond9 i = 1#1 ↔ (i 0).val % 4 = 3 := by decide +kernel
theorem cond10_iff : ∀ i : grid0.Coords, k0_cond10 i = 1#1 ↔ ((i 0).val % 4 = 1 ∨ (i 0).val % 4 = 2) := by decide +kernel
theorem off81_eq : ∀ i : grid0.Coords, k0_off81 i = ![(i 0).val % 2, 0, 0] := by decide +kernel

/-- Where the transfers started for a first block of rows go. -/
theorem offs_start_first : ∀ i : grid0.Coords, (i 0).val + 1 < 8 → ((i 0).val + 1) % 4 = 0 →
    (k0_off9 i = ![((i 0).val + 1) % 2, 0] ∧ k0_off10 i = ![((i 0).val + 1) % 2, 96 * 0, 256] ∧ k0_off11 i = ![((i 0).val + 1) / 4, 96 * 0, 0])
    ∧ (k0_off12 i = ![((i 0).val + 1) % 2, 1] ∧ k0_off13 i = ![((i 0).val + 1) % 2, 96 * 1, 256] ∧ k0_off14 i = ![((i 0).val + 1) / 4, 96 * 1, 0])
    ∧ (k0_off15 i = ![((i 0).val + 1) % 2, 2] ∧ k0_off16 i = ![((i 0).val + 1) % 2, 96 * 2, 256] ∧ k0_off17 i = ![((i 0).val + 1) / 4, 96 * 2, 0])
    ∧ (k0_off18 i = ![((i 0).val + 1) % 2, 3] ∧ k0_off19 i = ![((i 0).val + 1) % 2, 96 * 3, 256] ∧ k0_off20 i = ![((i 0).val + 1) / 4, 96 * 3, 0]) := by decide +kernel

/-- Where the transfers started for a last block of rows go. -/
theorem offs_start_last : ∀ i : grid0.Coords, (i 0).val + 1 < 8 → ((i 0).val + 1) % 4 = 3 →
    (k0_off21 i = ![((i 0).val + 1) % 2, 0] ∧ k0_off22 i = ![((i 0).val + 1) % 2, 96 * 0, 0] ∧ k0_off23 i = ![((i 0).val + 1) / 4, 96 * 0, 37376])
    ∧ (k0_off24 i = ![((i 0).val + 1) % 2, 1] ∧ k0_off25 i = ![((i 0).val + 1) % 2, 96 * 1, 0] ∧ k0_off26 i = ![((i 0).val + 1) / 4, 96 * 1, 37376])
    ∧ (k0_off27 i = ![((i 0).val + 1) % 2, 2] ∧ k0_off28 i = ![((i 0).val + 1) % 2, 96 * 2, 0] ∧ k0_off29 i = ![((i 0).val + 1) / 4, 96 * 2, 37376])
    ∧ (k0_off30 i = ![((i 0).val + 1) % 2, 3] ∧ k0_off31 i = ![((i 0).val + 1) % 2, 96 * 3, 0] ∧ k0_off32 i = ![((i 0).val + 1) / 4, 96 * 3, 37376]) := by decide +kernel

/-- Where the transfers started for an inner block of rows go. -/
theorem offs_start_mid : ∀ i : grid0.Coords, (i 0).val + 1 < 8 → (((i 0).val + 1) % 4 = 1 ∨ ((i 0).val + 1) % 4 = 2) →
    (k0_off33 i = ![((i 0).val + 1) % 2, 0] ∧ k0_off34 i = ![((i 0).val + 1) % 2, 96 * 0, 0] ∧ k0_off35 i = ![((i 0).val + 1) / 4, 96 * 0, (((i 0).val + 1) % 4) * 12544 - 256])
    ∧ (k0_off36 i = ![((i 0).val + 1) % 2, 1] ∧ k0_off37 i = ![((i 0).val + 1) % 2, 96 * 1, 0] ∧ k0_off38 i = ![((i 0).val + 1) / 4, 96 * 1, (((i 0).val + 1) % 4) * 12544 - 256])
    ∧ (k0_off39 i = ![((i 0).val + 1) % 2, 2] ∧ k0_off40 i = ![((i 0).val + 1) % 2, 96 * 2, 0] ∧ k0_off41 i = ![((i 0).val + 1) / 4, 96 * 2, (((i 0).val + 1) % 4) * 12544 - 256])
    ∧ (k0_off42 i = ![((i 0).val + 1) % 2, 3] ∧ k0_off43 i = ![((i 0).val + 1) % 2, 96 * 3, 0] ∧ k0_off44 i = ![((i 0).val + 1) / 4, 96 * 3, (((i 0).val + 1) % 4) * 12544 - 256]) := by decide +kernel

/-- The cells waited on for a first block of rows. -/
theorem offs_wait_first : ∀ i : grid0.Coords, (i 0).val % 4 = 0 →
    k0_off45 i = ![(i 0).val % 2, 0] ∧ k0_off48 i = ![(i 0).val % 2, 1] ∧ k0_off51 i = ![(i 0).val % 2, 2] ∧ k0_off54 i = ![(i 0).val % 2, 3] := by decide +kernel

/-- The cells waited on for a last block of rows. -/
theorem offs_wait_last : ∀ i : grid0.Coords, (i 0).val % 4 = 3 →
    k0_off57 i = ![(i 0).val % 2, 0] ∧ k0_off60 i = ![(i 0).val % 2, 1] ∧ k0_off63 i = ![(i 0).val % 2, 2] ∧ k0_off66 i = ![(i 0).val % 2, 3] := by decide +kernel

/-- The cells waited on for an inner block of rows. -/
theorem offs_wait_mid : ∀ i : grid0.Coords, ((i 0).val % 4 = 1 ∨ (i 0).val % 4 = 2) →
    k0_off69 i = ![(i 0).val % 2, 0] ∧ k0_off72 i = ![(i 0).val % 2, 1] ∧ k0_off75 i = ![(i 0).val % 2, 2] ∧ k0_off78 i = ![(i 0).val % 2, 3] := by decide +kernel

/-- The four chunks of a slot. -/
def Idle4 (c : Dev nD) (fx : S2x384x50176.Idx → Elt F .f32) (s : ℕ) : sProp 𝕄 :=
  iprop(Idle c fx s 0 ∗ Idle c fx s 1 ∗ Idle c fx s 2 ∗ Idle c fx s 3)
def Fly4 (c : Dev nD) (fx : S2x384x50176.Idx → Elt F .f32) (t : ℕ) : sProp 𝕄 :=
  iprop(Fly c fx t 0 ∗ Fly c fx t 1 ∗ Fly c fx t 2 ∗ Fly c fx t 3)
def Full4 (c : Dev nD) (fx : S2x384x50176.Idx → Elt F .f32) (t : ℕ) : sProp 𝕄 :=
  iprop(Full c fx t 0 ∗ Full c fx t 1 ∗ Full c fx t 2 ∗ Full c fx t 3)

/-- The two slots before point `t`: before the first point and after the last, both idle; otherwise point `t`'s transfers
    are under way in its slot and the other slot is idle. -/
def ring (c : Dev nD) (fx : S2x384x50176.Idx → Elt F .f32) (t : ℕ) : sProp 𝕄 :=
  if t = 0 ∨ 8 ≤ t then iprop(Idle4 c fx 0 ∗ Idle4 c fx 1) else iprop(Fly4 c fx t ∗ Idle4 c fx ((t + 1) % 2))

/-- The other slot once point `t` has started the next point's transfers. -/
def next (c : Dev nD) (fx : S2x384x50176.Idx → Elt F .f32) (t : ℕ) : sProp 𝕄 :=
  if t + 1 < 8 then Fly4 c fx (t + 1) else Idle4 c fx ((t + 1) % 2)

theorem ring_next (c : Dev nD) (fx : S2x384x50176.Idx → Elt F .f32) (t : ℕ) (ht : t < 8) :
    (iprop(next c fx t ∗ Idle4 c fx (t % 2)) : sProp 𝕄) ⊢ ring c fx (t + 1) := by
  unfold next ring
  by_cases h : t + 1 < 8
  · rw [if_pos h, if_neg (by omega), show (t + 1 + 1) % 2 = t % 2 by omega]
  · have : t = 7 := by omega
    subst this
    rw [if_neg h, if_pos (by omega)]

/-- A slab is right for point `t` when every column that stands for an input column holds the input's value there. -/
def SlabOK (t : ℕ) (fx : S2x384x50176.Idx → Elt F .f32) (v : S1x384x13056.Idx → Elt F .f32) : Prop :=
  ∀ (p : S1x384x13056.Idx) (q : S2x384x50176.Idx), (q 0).val = t / 4 → (q 1).val = (p 1).val →
    (q 2).val + 256 = (t % 4) * 12544 + (p 2).val → v p = fx q

theorem amt_edge {t : ℕ} (h : t % 4 = 0 ∨ t % 4 = 3) : bM.view.ref.dmaCredit ⟨2, ![96, 12800]⟩ .f32 = amt t := by
  unfold amt; rw [if_pos h]
theorem amt_mid {t : ℕ} (h : t % 4 = 1 ∨ t % 4 = 2) : bM.view.ref.dmaCredit ⟨2, ![96, 13056]⟩ .f32 = amt t := by
  unfold amt; rw [if_neg (by omega)]

variable (𝒱 : Variants) (c : Dev nD) (bd : Option 𝒱.V)
  {defs : Defs nD τ sig (Elt F) Λ₀}
  (arg2 : Memref sig .tc .vmem S1x64x12544 .f32) (harg2 : arg2.IsWhole) (arg3 : Memref sig .tc .vmem S576x384 .bf16) (harg3 : arg3.IsWhole)
  (arg4 : Memref sig .tc .vmem S1x8x12544 .f32) (harg4 : arg4.IsWhole) (arg5 : Memref sig .tc .vmem S1x8x12544 .f32) (harg5 : arg5.IsWhole)
  (arg6 : Memref sig .tc .vmem S1x8x12544 .i32) (harg6 : arg6.IsWhole)

/-- A value returned into a continuation. -/
theorem pure_into.{v} {E : Type → Type v} {α β : Type} (a : α) (k : α → Prog E β) : (Pure.pure a : Prog E α).bind k = k a := rfl

/-- Starting the next point's transfers. -/
theorem start_next (i : grid0.Coords) (fx : S2x384x50176.Idx → Elt F .f32) {α : Type} {Q : α → sProp 𝕄}
    {kk : (Σ' (arg0 : BitVec 32) (v25 : BitVec 32), BitVec 1) → Prog (TpuEff nD τ sig (Elt F) Λ₀ .tc) α} :
    iprop((if (i 0).val = 0 then Idle4 c fx 0 else Fly4 c fx (i 0).val) ∗ Idle4 c fx (((i 0).val + 1) % 2) : sProp 𝕄)
      ⊢ iprop((∀ u v, iprop(Fly4 c fx (i 0).val ∗ next c fx (i 0).val) -∗ wp frame (wpE defs 𝒱 (c : Thread nD τ) bd) Set.univ (kk ⟨BitVec.ofNat 32 (i 0).val, u, v⟩) Q) -∗
        wp frame (wpE defs 𝒱 (c : Thread nD τ) bd) Set.univ (k0_part9 (F := F) i xM (Memref.isWhole_whole _) arg2 harg2 arg3 harg3 arg4 harg4 arg5 harg5 arg6 harg6 bM (Memref.isWhole_whole _) pM (Memref.isWhole_whole _) cc0_scratch2 >>= kk) Q) := by
  have hlt : (i 0).val < 8 := (i 0).isLt
  rw [k0_part9_eq_skeleton]
  unfold k0_part9_skel
  rw [k0_part6_eq_skeleton, k0_part5_eq_skeleton, k0_part3_eq_skeleton]
  unfold k0_part6_skel k0_part3_skel k0_part5_skel
  rw [k0_part4_eq_skeleton]
  unfold k0_part4_skel
  by_cases h0 : (i 0).val = 0
  · have h1 := (cond1_iff i).mpr h0
    have h4 := (cond4_iff i).mpr (by omega)
    have h5 : ¬ k0_cond5 i = 1#1 := fun h => by have := (cond5_iff i).mp h; omega
    have h6 : ¬ k0_cond6 i = 1#1 := fun h => by have := (cond6_iff i).mp h; omega
    have h7 := (cond7_iff i).mpr (by omega)
    obtain ⟨⟨a0, a1, a2⟩, ⟨b0, b1, b2⟩, ⟨c0, c1, c2⟩, ⟨d0, d1, d2⟩⟩ := offs_start_mid i (by omega) (by omega)
    simp only [dif_pos h1, dif_neg cond2_ne, dif_neg cond3_ne, dif_pos h4, dif_neg h5, dif_neg h6, dif_pos h7, pure_bind, bind_assoc, Prog.bind_lift, if_pos h0]
    unfold Idle4
    rw [show Idle c fx 0 0 = Idle c fx ((0 : ℕ) % 2) 0 from rfl, show Idle c fx 0 1 = Idle c fx ((0 : ℕ) % 2) 1 from rfl, show Idle c fx 0 2 = Idle c fx ((0 : ℕ) % 2) 2 from rfl, show Idle c fx 0 3 = Idle c fx ((0 : ℕ) % 2) 3 from rfl]
    iintro ⟨⟨G0, G1, G2, G3⟩, ⟨H0, H1, H2, H3⟩⟩ Hk
    iapply (wp_start (t := 0) (i := 0) (lo := 256) (base := 0) 𝒱 c bd fx (by omega) (by omega) rfl rfl rfl (by omega) _ _ _ _ (amt_edge (by omega)) (by omega)) $$ G0
    iintro G0
    iapply (wp_start (t := 0) (i := 1) (lo := 256) (base := 0) 𝒱 c bd fx (by omega) (by omega) rfl rfl rfl (by omega) _ _ _ _ (amt_edge (by omega)) (by omega)) $$ G1
    iintro G1
    iapply (wp_start (t := 0) (i := 2) (lo := 256) (base := 0) 𝒱 c bd fx (by omega) (by omega) rfl rfl rfl (by omega) _ _ _ _ (amt_edge (by omega)) (by omega)) $$ G2
    iintro G2
    iapply (wp_start (t := 0) (i := 3) (lo := 256) (base := 0) 𝒱 c bd fx (by omega) (by omega) rfl rfl rfl (by omega) _ _ _ _ (amt_edge (by omega)) (by omega)) $$ G3
    iintro G3
    iapply (wp_start 𝒱 c bd fx (by omega) (by omega) a1 a2 a0 (by omega) _ _ _ _ (amt_mid (by omega)) (by omega)) $$ H0
    iintro H0
    iapply (wp_start 𝒱 c bd fx (by omega) (by omega) b1 b2 b0 (by omega) _ _ _ _ (amt_mid (by omega)) (by omega)) $$ H1
    iintro H1
    iapply (wp_start 𝒱 c bd fx (by omega) (by omega) c1 c2 c0 (by omega) _ _ _ _ (amt_mid (by omega)) (by omega)) $$ H2
    iintro H2
    iapply (wp_start 𝒱 c bd fx (by omega) (by omega) d1 d2 d0 (by omega) _ _ _ _ (amt_mid (by omega)) (by omega)) $$ H3
    iintro H3
    unfold next Fly4
    rw [h0, if_pos (by omega)]
    simp only [pure_into]
    iapply Hk
    isplitl [G0 G1 G2 G3]
    · isplitl [G0]; · iexact G0
      isplitl [G1]; · iexact G1
      isplitl [G2]; · iexact G2
      iexact G3
    isplitl [H0]; · iexact H0
    isplitl [H1]; · iexact H1
    isplitl [H2]; · iexact H2
    iexact H3
  · have h1 : ¬ k0_cond1 i = 1#1 := fun h => h0 ((cond1_iff i).mp h)
    rw [if_neg h0]
    by_cases hl : (i 0).val + 1 < 8
    · have h4 := (cond4_iff i).mpr hl
      have hc : ((i 0).val + 1) % 4 = 0 ∨ ((i 0).val + 1) % 4 = 3 ∨ (((i 0).val + 1) % 4 = 1 ∨ ((i 0).val + 1) % 4 = 2) := by omega
      unfold Idle4 next Fly4
      rw [if_pos hl]
      iintro ⟨G, ⟨H0, H1, H2, H3⟩⟩ Hk
      rcases hc with hc | hc | hc
      · obtain ⟨⟨a0, a1, a2⟩, ⟨b0, b1, b2⟩, ⟨c0, c1, c2⟩, ⟨d0, d1, d2⟩⟩ := offs_start_first i hl hc
        have h5 := (cond5_iff i).mpr hc
        have h6 : ¬ k0_cond6 i = 1#1 := fun h => by have := (cond6_iff i).mp h; omega
        have h7 : ¬ k0_cond7 i = 1#1 := fun h => by have := (cond7_iff i).mp h; omega
        simp only [dif_neg h1, dif_pos h4, dif_pos h5, dif_neg h6, dif_neg h7, pure_bind, bind_assoc, Prog.bind_lift]
        iapply (wp_start 𝒱 c bd fx (by omega) (by omega) a1 a2 a0 (by omega) _ _ _ _ (amt_edge (by omega)) (by omega)) $$ H0
        iintro H0
        iapply (wp_start 𝒱 c bd fx (by omega) (by omega) b1 b2 b0 (by omega) _ _ _ _ (amt_edge (by omega)) (by omega)) $$ H1
        iintro H1
        iapply (wp_start 𝒱 c bd fx (by omega) (by omega) c1 c2 c0 (by omega) _ _ _ _ (amt_edge (by omega)) (by omega)) $$ H2
        iintro H2
        iapply (wp_start 𝒱 c bd fx (by omega) (by omega) d1 d2 d0 (by omega) _ _ _ _ (amt_edge (by omega)) (by omega)) $$ H3
        iintro H3
        simp only [pure_into]
        iapply Hk
        isplitl [G]; · iexact G
        isplitl [H0]; · iexact H0
        isplitl [H1]; · iexact H1
        isplitl [H2]; · iexact H2
        iexact H3
      · obtain ⟨⟨a0, a1, a2⟩, ⟨b0, b1, b2⟩, ⟨c0, c1, c2⟩, ⟨d0, d1, d2⟩⟩ := offs_start_last i hl hc
        have h5 : ¬ k0_cond5 i = 1#1 := fun h => by have := (cond5_iff i).mp h; omega
        have h6 := (cond6_iff i).mpr hc
        have h7 : ¬ k0_cond7 i = 1#1 := fun h => by have := (cond7_iff i).mp h; omega
        simp only [dif_neg h1, dif_pos h4, dif_neg h5, dif_pos h6, dif_neg h7, pure_bind, bind_assoc, Prog.bind_lift]
        iapply (wp_start 𝒱 c bd fx (by omega) (by omega) a1 a2 a0 (by omega) _ _ _ _ (amt_edge (by omega)) (by omega)) $$ H0
        iintro H0
        iapply (wp_start 𝒱 c bd fx (by omega) (by omega) b1 b2 b0 (by omega) _ _ _ _ (amt_edge (by omega)) (by omega)) $$ H1
        iintro H1
        iapply (wp_start 𝒱 c bd fx (by omega) (by omega) c1 c2 c0 (by omega) _ _ _ _ (amt_edge (by omega)) (by omega)) $$ H2
        iintro H2
        iapply (wp_start 𝒱 c bd fx (by omega) (by omega) d1 d2 d0 (by omega) _ _ _ _ (amt_edge (by omega)) (by omega)) $$ H3
        iintro H3
        simp only [pure_into]
        iapply Hk
        isplitl [G]; · iexact G
        isplitl [H0]; · iexact H0
        isplitl [H1]; · iexact H1
        isplitl [H2]; · iexact H2
        iexact H3
      · obtain ⟨⟨a0, a1, a2⟩, ⟨b0, b1, b2⟩, ⟨c0, c1, c2⟩, ⟨d0, d1, d2⟩⟩ := offs_start_mid i hl hc
        have h5 : ¬ k0_cond5 i = 1#1 := fun h => by have := (cond5_iff i).mp h; omega
        have h6 : ¬ k0_cond6 i = 1#1 := fun h => by have := (cond6_iff i).mp h; omega
        have h7 := (cond7_iff i).mpr hc
        simp only [dif_neg h1, dif_pos h4, dif_neg h5, dif_neg h6, dif_pos h7, pure_bind, bind_assoc, Prog.bind_lift]
        iapply (wp_start 𝒱 c bd fx (by omega) (by omega) a1 a2 a0 (by omega) _ _ _ _ (amt_mid (by omega)) (by omega)) $$ H0
        iintro H0
        iapply (wp_start 𝒱 c bd fx (by omega) (by omega) b1 b2 b0 (by omega) _ _ _ _ (amt_mid (by omega)) (by omega)) $$ H1
        iintro H1
        iapply (wp_start 𝒱 c bd fx (by omega) (by omega) c1 c2 c0 (by omega) _ _ _ _ (amt_mid (by omega)) (by omega)) $$ H2
        iintro H2
        iapply (wp_start 𝒱 c bd fx (by omega) (by omega) d1 d2 d0 (by omega) _ _ _ _ (amt_mid (by omega)) (by omega)) $$ H3
        iintro H3
        simp only [pure_into]
        iapply Hk
        isplitl [G]; · iexact G
        isplitl [H0]; · iexact H0
        isplitl [H1]; · iexact H1
        isplitl [H2]; · iexact H2
        iexact H3
    · have h4 : ¬ k0_cond4 i = 1#1 := fun h => hl ((cond4_iff i).mp h)
      simp only [dif_neg h1, dif_neg h4, pure_bind, bind_assoc, Prog.bind_lift]
      unfold next
      rw [if_neg hl]
      iintro ⟨G, H⟩ Hk
      iapply Hk
      isplitl [G]; · iexact G
      iexact H

end Cert.KernelIdeal.Hand

end
end
-- ==== Proof.Await.lean ====
/-
  Hand-written. The second part of the body at a point: it waits for the point's four transfers and loads the slab,
  which then holds the input's values at every column that stands for an input column.
-/
module

public import proofs.«01_k».proof.Proof.Prologue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A slot: its four chunks. -/
def slot (s : ℕ) : Finset S2x384x13056.Idx := reg s 0 ∪ (reg s 1 ∪ (reg s 2 ∪ reg s 3))

theorem reg_disjoint {s i j : ℕ} (h : i ≠ j) : Disjoint (reg s i) (reg s j) :=
  Finset.disjoint_left.mpr fun p hp hq => by
    have := mem_reg.mp hp; have := mem_reg.mp hq; omega

theorem mem_slot {s : ℕ} {p : S2x384x13056.Idx} : p ∈ slot s ↔ (p 0).val = s := by
  have h1 : (p 1).val < 384 := (p 1).isLt
  simp only [slot, Finset.mem_union, mem_reg]
  omega

theorem slot_disjoint : Disjoint (slot 0) (slot 1) :=
  Finset.disjoint_left.mpr fun p hp hq => by
    have := mem_slot.mp hp; have := mem_slot.mp hq; omega

theorem slots_cover : slot 0 ∪ slot 1 = Finset.univ := by
  ext p
  have h1 : (p 0).val < 2 := (p 0).isLt
  simp only [Finset.mem_union, mem_slot, Finset.mem_univ, iff_true]
  omega

theorem dj1 (s : ℕ) : Disjoint (reg s 2) (reg s 3) := reg_disjoint (by decide)
theorem dj2 (s : ℕ) : Disjoint (reg s 1) (reg s 2 ∪ reg s 3) :=
  Finset.disjoint_union_right.mpr ⟨reg_disjoint (by decide), reg_disjoint (by decide)⟩
theorem dj3 (s : ℕ) : Disjoint (reg s 0) (reg s 1 ∪ (reg s 2 ∪ reg s 3)) :=
  Finset.disjoint_union_right.mpr ⟨reg_disjoint (by decide), Finset.disjoint_union_right.mpr ⟨reg_disjoint (by decide), reg_disjoint (by decide)⟩⟩

/-- Four chunks at their contents are the slot at one array that agrees with each on its chunk. -/
theorem slot_join (c : Dev nD) (s : ℕ) (f0 f1 f2 f3 : S2x384x13056.Idx → Elt F .f32) :
    (iprop((bM.view.loc (c : Thread nD τ) ↦[reg s 0]{fullShare} f0) ∗ (bM.view.loc (c : Thread nD τ) ↦[reg s 1]{fullShare} f1)
      ∗ (bM.view.loc (c : Thread nD τ) ↦[reg s 2]{fullShare} f2) ∗ (bM.view.loc (c : Thread nD τ) ↦[reg s 3]{fullShare} f3)) : sProp 𝕄)
      ⊢ iprop(∃ g : S2x384x13056.Idx → Elt F .f32, ⌜∀ p, (p ∈ reg s 0 → g p = f0 p) ∧ (p ∈ reg s 1 → g p = f1 p) ∧ (p ∈ reg s 2 → g p = f2 p) ∧ (p ∈ reg s 3 → g p = f3 p)⌝
        ∗ bM.view.loc (c : Thread nD τ) ↦[slot s]{fullShare} g) := by
  iintro ⟨H0, H1, H2, H3⟩
  ihave H2 := (pointsTo_join (ℓ := bM.view.loc (c : Thread nD τ)) (dj1 s)) $$ [H2 H3]
  · isplitl [H2] <;> iassumption
  ihave H1 := (pointsTo_join (ℓ := bM.view.loc (c : Thread nD τ)) (dj2 s)) $$ [H1 H2]
  · isplitl [H1] <;> iassumption
  ihave H0 := (pointsTo_join (ℓ := bM.view.loc (c : Thread nD τ)) (dj3 s)) $$ [H0 H1]
  · isplitl [H0] <;> iassumption
  iexists _
  isplitr
  rotate_left
  · iexact H0
  · ipureintro
    intro p
    have n : ∀ a b, a ≠ b → p ∈ reg s a → p ∉ reg s b := fun a b hab ha hb => Finset.disjoint_left.mp (reg_disjoint hab) ha hb
    refine ⟨fun h => ?_, fun h => ?_, fun h => ?_, fun h => ?_⟩
    · rw [Finset.piecewise_eq_of_notMem]
      simp only [Finset.mem_union, not_or]
      exact ⟨n 0 1 (by decide) h, n 0 2 (by decide) h, n 0 3 (by decide) h⟩
    · rw [Finset.piecewise_eq_of_mem _ _ _ (by simp only [Finset.mem_union]; exact Or.inl h), Finset.piecewise_eq_of_notMem]
      simp only [Finset.mem_union, not_or]
      exact ⟨n 1 2 (by decide) h, n 1 3 (by decide) h⟩
    · rw [Finset.piecewise_eq_of_mem _ _ _ (by simp only [Finset.mem_union]; exact Or.inr (Or.inl h)),
        Finset.piecewise_eq_of_mem _ _ _ (by simp only [Finset.mem_union]; exact Or.inl h), Finset.piecewise_eq_of_notMem]
      exact n 2 3 (by decide) h
    · rw [Finset.piecewise_eq_of_mem _ _ _ (by simp only [Finset.mem_union]; exact Or.inr (Or.inr h)),
        Finset.piecewise_eq_of_mem _ _ _ (by simp only [Finset.mem_union]; exact Or.inr h), Finset.piecewise_eq_of_mem _ _ _ h]

/-- A slot is its four chunks. -/
theorem slot_split (c : Dev nD) (s : ℕ) (g : S2x384x13056.Idx → Elt F .f32) :
    (bM.view.loc (c : Thread nD τ) ↦[slot s]{fullShare} g : sProp 𝕄)
      ⊢ iprop((bM.view.loc (c : Thread nD τ) ↦[reg s 0]{fullShare} g) ∗ (bM.view.loc (c : Thread nD τ) ↦[reg s 1]{fullShare} g)
        ∗ (bM.view.loc (c : Thread nD τ) ↦[reg s 2]{fullShare} g) ∗ (bM.view.loc (c : Thread nD τ) ↦[reg s 3]{fullShare} g)) := by
  unfold slot
  iintro H
  ihave H := (pointsTo_union (ℓ := bM.view.loc (c : Thread nD τ)) (dj3 s)).1 $$ H
  icases H with ⟨H0, H⟩
  ihave H := (pointsTo_union (ℓ := bM.view.loc (c : Thread nD τ)) (dj2 s)).1 $$ H
  icases H with ⟨H1, H⟩
  ihave H := (pointsTo_union (ℓ := bM.view.loc (c : Thread nD τ)) (dj1 s)).1 $$ H
  icases H with ⟨H2, H3⟩
  isplitl [H0]; · iexact H0
  isplitl [H1]; · iexact H1
  isplitl [H2]; · iexact H2
  iexact H3

variable (𝒱 : Variants) (c : Dev nD) (bd : Option 𝒱.V)
  {defs : Defs nD τ sig (Elt F) Λ₀}
  (arg2 : Memref sig .tc .vmem S1x64x12544 .f32) (harg2 : arg2.IsWhole) (arg3 : Memref sig .tc .vmem S576x384 .bf16) (harg3 : arg3.IsWhole)
  (arg4 : Memref sig .tc .vmem S1x8x12544 .f32) (harg4 : arg4.IsWhole) (arg5 : Memref sig .tc .vmem S1x8x12544 .f32) (harg5 : arg5.IsWhole)
  (arg6 : Memref sig .tc .vmem S1x8x12544 .i32) (harg6 : arg6.IsWhole)

/-- Loading a slot whose four transfers have landed gives a slab that is right for the point. -/
theorem load_slab (t : ℕ) (fx : S2x384x50176.Idx → Elt F .f32) {α : Type} {Q : α → sProp 𝕄} {o : Fin 3 → Nat} (ho : o = ![t % 2, 0, 0])
    (hin : ∀ a, o a + S1x384x13056.size a ≤ S2x384x13056.size a) {hl}
    {k : (S1x384x13056.Idx → Elt F .f32) → Prog (TpuEff nD τ sig (Elt F) Λ₀ .tc) α} :
    (Full4 c fx t : sProp 𝕄) ⊢ iprop((∀ v59 : S1x384x13056.Idx → Elt F .f32, ⌜SlabOK t fx v59⌝ -∗ Idle4 c fx (t % 2) -∗ wp frame (wpE defs 𝒱 (c : Thread nD τ) bd) Set.univ (k v59) Q) -∗
      wp frame (wpE defs 𝒱 (c : Thread nD τ) bd) Set.univ (.op (.load bM (Rect.unit (s := S2x384x13056) o S1x384x13056.size hin).toLoadRect hl) k) Q) := by
  subst ho
  unfold Full4 Full
  iintro ⟨⟨⟨%f0, %l0, H0⟩, S0, X0⟩, ⟨⟨%f1, %l1, H1⟩, S1, X1⟩, ⟨⟨%f2, %l2, H2⟩, S2, X2⟩, ⟨⟨%f3, %l3, H3⟩, S3, X3⟩⟩ Hk
  ihave H := (slot_join c (t % 2) f0 f1 f2 f3) $$ [H0 H1 H2 H3]
  · isplitl [H0]; · iexact H0
    isplitl [H1]; · iexact H1
    isplitl [H2]; · iexact H2
    iexact H3
  icases H with ⟨%g, %hg, H⟩
  have hsub : bM.view.setOn (Rect.unit (s := S2x384x13056) ![t % 2, 0, 0] S1x384x13056.size hin).toLoadRect.set ⊆ slot (t % 2) := by
    intro p hp
    have hp' : p ∈ (Rect.unit (s := S2x384x13056) ![t % 2, 0, 0] S1x384x13056.size hin).set := by
      rw [View.setOn] at hp
      obtain ⟨y, hy, rfl⟩ := Finset.mem_map.mp hp
      exact hy
    have h0 := (Rect.mem_set_unit.mp hp') 0
    simp at h0
    exact mem_slot.mpr (by omega)
  iapply (wp_load 𝒱 (c : Thread nD τ) bd Set.univ hsub) $$ H
  iintro H
  iapply Hk $$ [] [H S0 S1 S2 S3 X0 X1 X2 X3]
  · ipureintro
    intro p q h0 h1 h2
    have hp1 : (p 1).val < 384 := (p 1).isLt
    have e0 : (((Rect.unit (s := S2x384x13056) ![t % 2, 0, 0] S1x384x13056.size hin).emb p) 0).val = t % 2 := by
      show t % 2 + 1 * (p 0).val = t % 2
      have : (p 0).val < 1 := (p 0).isLt
      omega
    have e1 : (((Rect.unit (s := S2x384x13056) ![t % 2, 0, 0] S1x384x13056.size hin).emb p) 1).val = (p 1).val := by
      show 0 + 1 * (p 1).val = (p 1).val; omega
    have e2 : (((Rect.unit (s := S2x384x13056) ![t % 2, 0, 0] S1x384x13056.size hin).emb p) 2).val = (p 2).val := by
      show 0 + 1 * (p 2).val = (p 2).val; omega
    show g ((Rect.unit (s := S2x384x13056) ![t % 2, 0, 0] S1x384x13056.size hin).emb p) = fx q
    generalize (Rect.unit (s := S2x384x13056) ![t % 2, 0, 0] S1x384x13056.size hin).emb p = z at e0 e1 e2 ⊢
    obtain ⟨g0, g1, g2, g3⟩ := hg z
    have hc : (p 1).val < 96 ∨ (96 ≤ (p 1).val ∧ (p 1).val < 192) ∨ (192 ≤ (p 1).val ∧ (p 1).val < 288) ∨ 288 ≤ (p 1).val := by omega
    rcases hc with hc | hc | hc | hc
    · have hm : z ∈ reg (t % 2) 0 := mem_reg.mpr (by omega)
      exact (g0 hm).trans (l0 z q hm h0 (by omega) (by omega))
    · have hm : z ∈ reg (t % 2) 1 := mem_reg.mpr (by omega)
      exact (g1 hm).trans (l1 z q hm h0 (by omega) (by omega))
    · have hm : z ∈ reg (t % 2) 2 := mem_reg.mpr (by omega)
      exact (g2 hm).trans (l2 z q hm h0 (by omega) (by omega))
    · have hm : z ∈ reg (t % 2) 3 := mem_reg.mpr (by omega)
      exact (g3 hm).trans (l3 z q hm h0 (by omega) (by omega))
  · ihave H := (slot_split c (t % 2) g) $$ H
    icases H with ⟨H0, H1, H2, H3⟩
    unfold Idle4 Idle
    isplitl [H0 S0 X0]
    · isplitl [H0]; · iexists g; iexact H0
      isplitl [S0] <;> iassumption
    isplitl [H1 S1 X1]
    · isplitl [H1]; · iexists g; iexact H1
      isplitl [S1] <;> iassumption
    isplitl [H2 S2 X2]
    · isplitl [H2]; · iexists g; iexact H2
      isplitl [S2] <;> iassumption
    isplitl [H3]; · iexists g; iexact H3
    isplitl [S3] <;> iassumption

/-- Waiting for the point's transfers and loading its slab. -/
theorem await_load (i : grid0.Coords) (fx : S2x384x50176.Idx → Elt F .f32) {α : Type} {Q : α → sProp 𝕄} {W : Waits sig Unit} (arg0 u : BitVec 32) (v : BitVec 1)
    {kk : (Σ' (v69 : BitVec 32), BitVec 32) → Prog (TpuEff nD τ sig (Elt F) Λ₀ .tc) α} :
    iprop(Fly4 c fx (i 0).val ∗ owes (c : Thread nD τ) 0 W : sProp 𝕄)
      ⊢ iprop((∀ v59 : S1x384x13056.Idx → Elt F .f32, ⌜SlabOK (i 0).val fx v59⌝ -∗ iprop(Idle4 c fx ((i 0).val % 2) ∗ ∃ W', owes (c : Thread nD τ) 0 W') -∗
          wp frame (wpE defs 𝒱 (c : Thread nD τ) bd) Set.univ
            (Prog.lift (.load arg3 (Rect.unit (s := S576x384) ![0, 0] S576x384.size inb_S576x384_S576x384_0_0).toLoadRect (View.loadsAt_vmem h_S576x384)) >>= fun v62 : Vec F S576x384 .bf16 =>
              Prog.lift (.load pM (Rect.unit (s := S576x13056) ![0, 0] S576x13056.size inb_S576x13056_S576x13056_0_0).toLoadRect (View.loadsAt_vmem h_S576x13056)) >>= fun _ : Vec F S576x13056 .f32 =>
              Prog.lift (.store pM (Rect.unit (s := S576x13056) ![0, 0] S576x13056.size inb_S576x13056_S576x13056_0_0) (k0_pay4 v59 v62) Finset.univ (View.stores_vmem_bits_univ h_S576x13056 rfl) (.inl rfl)) >>= fun _ =>
              kk ⟨Scalar.select (Scalar.cmpi .eq 4#32 0#32) 1#32 4#32, Scalar.remsi arg0 (Scalar.select (Scalar.cmpi .eq 4#32 0#32) 1#32 4#32)⟩) Q) -∗
        wp frame (wpE defs 𝒱 (c : Thread nD τ) bd) Set.univ (k0_part10 (F := F) i xM (Memref.isWhole_whole _) arg2 harg2 arg3 harg3 arg4 harg4 arg5 harg5 arg6 harg6 bM (Memref.isWhole_whole _) pM (Memref.isWhole_whole _) cc0_scratch2 arg0 u v >>= kk) Q) := by
  have hlt : (i 0).val < 8 := (i 0).isLt
  rw [k0_part10_eq_skeleton]
  unfold k0_part10_skel
  rw [k0_part7_eq_skeleton, k0_part8_eq_skeleton]
  unfold k0_part7_skel k0_part8_skel Fly4
  iintro ⟨⟨G0, G1, G2, G3⟩, HO⟩ Hk
  have hc : (i 0).val % 4 = 0 ∨ (i 0).val % 4 = 3 ∨ ((i 0).val % 4 = 1 ∨ (i 0).val % 4 = 2) := by omega
  rcases hc with hc | hc | hc
  · obtain ⟨a0, b0, c0, d0⟩ := offs_wait_first i hc
    have h8 := (cond8_iff i).mpr hc
    have h9 : ¬ k0_cond9 i = 1#1 := fun h => by have := (cond9_iff i).mp h; omega
    have h10 : ¬ k0_cond10 i = 1#1 := fun h => by have := (cond10_iff i).mp h; omega
    simp only [dif_pos h8, dif_neg h9, dif_neg h10, pure_bind, bind_assoc, Prog.bind_lift]
    iapply (wp_await 𝒱 c bd fx (by omega) (by omega) a0 _ _ _ _ (amt_edge (by omega))) $$ [G0 HO]
    · isplitl [G0] <;> iassumption
    iintro ⟨G0, HO⟩
    iapply (wp_await 𝒱 c bd fx (by omega) (by omega) b0 _ _ _ _ (amt_edge (by omega))) $$ [G1 HO]
    · isplitl [G1] <;> iassumption
    iintro ⟨G1, HO⟩
    iapply (wp_await 𝒱 c bd fx (by omega) (by omega) c0 _ _ _ _ (amt_edge (by omega))) $$ [G2 HO]
    · isplitl [G2] <;> iassumption
    iintro ⟨G2, HO⟩
    iapply (wp_await 𝒱 c bd fx (by omega) (by omega) d0 _ _ _ _ (amt_edge (by omega))) $$ [G3 HO]
    · isplitl [G3] <;> iassumption
    iintro ⟨G3, HO⟩
    simp only [pure_into]
    iapply (load_slab 𝒱 c bd (i 0).val fx (off81_eq i)) $$ [G0 G1 G2 G3]
    · unfold Full4
      isplitl [G0]; · iexact G0
      isplitl [G1]; · iexact G1
      isplitl [G2]; · iexact G2
      iexact G3
    iintro %v59 %hv HI
    iapply Hk $$ %v59 [] [HI HO]
    · ipureintro; exact hv
    · isplitl [HI]; · iexact HI
      iexists _; iexact HO
  · obtain ⟨a0, b0, c0, d0⟩ := offs_wait_last i hc
    have h8 : ¬ k0_cond8 i = 1#1 := fun h => by have := (cond8_iff i).mp h; omega
    have h9 := (cond9_iff i).mpr hc
    have h10 : ¬ k0_cond10 i = 1#1 := fun h => by have := (cond10_iff i).mp h; omega
    simp only [dif_neg h8, dif_pos h9, dif_neg h10, pure_bind, bind_assoc, Prog.bind_lift]
    iapply (wp_await 𝒱 c bd fx (by omega) (by omega) a0 _ _ _ _ (amt_edge (by omega))) $$ [G0 HO]
    · isplitl [G0] <;> iassumption
    iintro ⟨G0, HO⟩
    iapply (wp_await 𝒱 c bd fx (by omega) (by omega) b0 _ _ _ _ (amt_edge (by omega))) $$ [G1 HO]
    · isplitl [G1] <;> iassumption
    iintro ⟨G1, HO⟩
    iapply (wp_await 𝒱 c bd fx (by omega) (by omega) c0 _ _ _ _ (amt_edge (by omega))) $$ [G2 HO]
    · isplitl [G2] <;> iassumption
    iintro ⟨G2, HO⟩
    iapply (wp_await 𝒱 c bd fx (by omega) (by omega) d0 _ _ _ _ (amt_edge (by omega))) $$ [G3 HO]
    · isplitl [G3] <;> iassumption
    iintro ⟨G3, HO⟩
    simp only [pure_into]
    iapply (load_slab 𝒱 c bd (i 0).val fx (off81_eq i)) $$ [G0 G1 G2 G3]
    · unfold Full4
      isplitl [G0]; · iexact G0
      isplitl [G1]; · iexact G1
      isplitl [G2]; · iexact G2
      iexact G3
    iintro %v59 %hv HI
    iapply Hk $$ %v59 [] [HI HO]
    · ipureintro; exact hv
    · isplitl [HI]; · iexact HI
      iexists _; iexact HO
  · obtain ⟨a0, b0, c0, d0⟩ := offs_wait_mid i hc
    have h8 : ¬ k0_cond8 i = 1#1 := fun h => by have := (cond8_iff i).mp h; omega
    have h9 : ¬ k0_cond9 i = 1#1 := fun h => by have := (cond9_iff i).mp h; omega
    have h10 := (cond10_iff i).mpr hc
    simp only [dif_neg h8, dif_neg h9, dif_pos h10, pure_bind, bind_assoc, Prog.bind_lift]
    iapply (wp_await 𝒱 c bd fx (by omega) (by omega) a0 _ _ _ _ (amt_mid (by omega))) $$ [G0 HO]
    · isplitl [G0] <;> iassumption
    iintro ⟨G0, HO⟩
    iapply (wp_await 𝒱 c bd fx (by omega) (by omega) b0 _ _ _ _ (amt_mid (by omega))) $$ [G1 HO]
    · isplitl [G1] <;> iassumption
    iintro ⟨G1, HO⟩
    iapply (wp_await 𝒱 c bd fx (by omega) (by omega) c0 _ _ _ _ (amt_mid (by omega))) $$ [G2 HO]
    · isplitl [G2] <;> iassumption
    iintro ⟨G2, HO⟩
    iapply (wp_await 𝒱 c bd fx (by omega) (by omega) d0 _ _ _ _ (amt_mid (by omega))) $$ [G3 HO]
    · isplitl [G3] <;> iassumption
    iintro ⟨G3, HO⟩
    simp only [pure_into]
    iapply (load_slab 𝒱 c bd (i 0).val fx (off81_eq i)) $$ [G0 G1 G2 G3]
    · unfold Full4
      isplitl [G0]; · iexact G0
      isplitl [G1]; · iexact G1
      isplitl [G2]; · iexact G2
      iexact G3
    iintro %v59 %hv HI
    iapply Hk $$ %v59 [] [HI HO]
    · ipureintro; exact hv
    · isplitl [HI]; · iexact HI
      iexists _; iexact HO

end Cert.KernelIdeal.Hand

end
end
-- ==== Proof.Tail.lean ====
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body from the slab on: what the kernel does at a point once its slab is loaded. -/
def tail (i : grid0.Coords) (arg2 : Memref sig .tc .vmem S1x64x12544 .f32) (harg2 : arg2.IsWhole) (arg3 : Memref sig .tc .vmem S576x384 .bf16) (harg3 : arg3.IsWhole)
    (arg4 : Memref sig .tc .vmem S1x8x12544 .f32) (harg4 : arg4.IsWhole) (arg5 : Memref sig .tc .vmem S1x8x12544 .f32) (harg5 : arg5.IsWhole)
    (arg6 : Memref sig .tc .vmem S1x8x12544 .i32) (harg6 : arg6.IsWhole)
    (v59 : Vec F S1x384x13056 .f32) : Prog (TpuEff nD τ sig (Elt F) Λ₀ .tc) PUnit := do
  let v62 : Vec F S576x384 .bf16 ← Prog.lift (.load arg3 (Rect.unit (s := S576x384) ![0, 0] S576x384.size inb_S576x384_S576x384_0_0).toLoadRect (View.loadsAt_vmem h_S576x384))
  let v65 : Vec F S576x13056 .f32 ← Prog.lift (.load pM (Rect.unit (s := S576x13056) ![0, 0] S576x13056.size inb_S576x13056_S576x13056_0_0).toLoadRect (View.loadsAt_vmem h_S576x13056))
  Prog.lift (.store pM (Rect.unit (s := S576x13056) ![0, 0] S576x13056.size inb_S576x13056_S576x13056_0_0) (k0_pay4 v59 v62) Finset.univ (View.stores_vmem_bits_univ h_S576x13056 rfl) (.inl rfl))
  let v69 : BitVec 32 := Scalar.select (Scalar.cmpi .eq 4#32 0#32) 1#32 4#32
  let v70 : BitVec 32 := Scalar.remsi (BitVec.ofNat 32 (i 0).val) v69
  let ⟨v94, v99, v104, v111, cst_47, v112⟩ ← k0_part11 i xM (Memref.isWhole_whole _) arg2 harg2 arg3 harg3 arg4 harg4 arg5 harg5 arg6 harg6 bM (Memref.isWhole_whole _) pM (Memref.isWhole_whole _) cc0_scratch2 v69 v70
  let ⟨v151, v152⟩ ← k0_part12 i xM (Memref.isWhole_whole _) arg2 harg2 arg3 harg3 arg4 harg4 arg5 harg5 arg6 harg6 bM (Memref.isWhole_whole _) pM (Memref.isWhole_whole _) cc0_scratch2 v94 v99 v111 cst_47 v112
  let ⟨v181, v183, v184, v185, v191, v194, cst_68⟩ ← k0_part13 i xM (Memref.isWhole_whole _) arg2 harg2 arg3 harg3 arg4 harg4 arg5 harg5 arg6 harg6 bM (Memref.isWhole_whole _) pM (Memref.isWhole_whole _) cc0_scratch2 v94 v104 v151 v152
  let ⟨v209, v210, v216, v219⟩ ← k0_part14 i xM (Memref.isWhole_whole _) arg2 harg2 arg3 harg3 arg4 harg4 arg5 harg5 arg6 harg6 bM (Memref.isWhole_whole _) pM (Memref.isWhole_whole _) cc0_scratch2 v181 v183 v184 v185 v191 v194 cst_68
  let ⟨v259, v260, v263⟩ ← k0_part15 i xM (Memref.isWhole_whole _) arg2 harg2 arg3 harg3 arg4 harg4 arg5 harg5 arg6 harg6 bM (Memref.isWhole_whole _) pM (Memref.isWhole_whole _) cc0_scratch2 v181 v184 v209 v210 v216 v219
  let ⟨v284, v285, v291, v294, v298⟩ ← k0_part16 i xM (Memref.isWhole_whole _) arg2 harg2 arg3 harg3 arg4 harg4 arg5 harg5 arg6 harg6 bM (Memref.isWhole_whole _) pM (Memref.isWhole_whole _) cc0_scratch2 v181 v184 v259 v260 v263
  let ⟨v309, v319, v332⟩ ← k0_part17 i xM (Memref.isWhole_whole _) arg2 harg2 arg3 harg3 arg4 harg4 arg5 harg5 arg6 harg6 bM (Memref.isWhole_whole _) pM (Memref.isWhole_whole _) cc0_scratch2 v181 v184 v284 v285 v291 v294 v298
  let ⟨v360, v366, v369⟩ ← k0_part18 i xM (Memref.isWhole_whole _) arg2 harg2 arg3 harg3 arg4 harg4 arg5 harg5 arg6 harg6 bM (Memref.isWhole_whole _) pM (Memref.isWhole_whole _) cc0_scratch2 v181 v184 v309 v319 v332
  let v374 : Vec F S1x1x12544 .f32 ← Prog.lift (.load arg4 (Rect.unit (s := S1x8x12544) ![0, 7, 0] S1x1x12544.size inb_S1x8x12544_S1x1x12544_0_7_0).toLoadRect (View.loadsAt_vmem h_S1x1x12544))
  Prog.lift (.store arg4 (Rect.unit (s := S1x8x12544) ![0, 7, 0] S1x1x12544.size inb_S1x8x12544_S1x1x12544_0_7_0) (k0_pay1 v181 v360 v369) Finset.univ (View.stores_vmem_bits_univ h_S1x1x12544 rfl) (.inl rfl))
  let v377 : Vec F S1x1x12544 .f32 ← Prog.lift (.load arg5 (Rect.unit (s := S1x8x12544) ![0, 7, 0] S1x1x12544.size inb_S1x8x12544_S1x1x12544_0_7_0).toLoadRect (View.loadsAt_vmem h_S1x1x12544))
  Prog.lift (.store arg5 (Rect.unit (s := S1x8x12544) ![0, 7, 0] S1x1x12544.size inb_S1x8x12544_S1x1x12544_0_7_0) (k0_pay2 v360) Finset.univ (View.stores_vmem_bits_univ h_S1x1x12544 rfl) (.inl rfl))
  let v380 : Vec F S1x1x12544 .i32 ← Prog.lift (.load arg6 (Rect.unit (s := S1x8x12544) ![0, 7, 0] S1x1x12544.size inb_S1x8x12544_S1x1x12544_0_7_0).toLoadRect (View.loadsAt_vmem h_S1x1x12544))
  Prog.lift (.store arg6 (Rect.unit (s := S1x8x12544) ![0, 7, 0] S1x1x12544.size inb_S1x8x12544_S1x1x12544_0_7_0) (k0_pay3 v366) Finset.univ (View.stores_vmem_bits_univ h_S1x1x12544 rfl) (.inl rfl))
  pure ⟨⟩

set_option maxHeartbeats 2000000 in
/-- The run of the tail: the pieces it leaves in the three result blocks. -/
def tailRun (c : Dev nD) (i : grid0.Coords) (arg2 : Memref sig .tc .vmem S1x64x12544 .f32) (harg2 : arg2.IsWhole) (arg3 : Memref sig .tc .vmem S576x384 .bf16) (harg3 : arg3.IsWhole)
    (arg4 : Memref sig .tc .vmem S1x8x12544 .f32) (harg4 : arg4.IsWhole) (arg5 : Memref sig .tc .vmem S1x8x12544 .f32) (harg5 : arg5.IsWhole)
    (arg6 : Memref sig .tc .vmem S1x8x12544 .i32) (harg6 : arg6.IsWhole)
    (v59 : Vec F S1x384x13056 .f32) (f2 : Buf (Elt F) (arg2.view.loc (c : Thread nD τ))) (f3 : Buf (Elt F) (arg3.view.loc (c : Thread nD τ))) :
    (L4 : List (View.Piece (Elt F) S1x8x12544 .f32)) ×' (L5 : List (View.Piece (Elt F) S1x8x12544 .f32)) ×' (L6 : List (View.Piece (Elt F) S1x8x12544 .i32)) ×'
      (∀ (K : PUnit → sProp 𝕄),
        iprop((arg2.view.loc (c : Thread nD τ) ↦[arg2.view.set]{fullShare} f2) ∗ (arg3.view.loc (c : Thread nD τ) ↦[arg3.view.set]{fullShare} f3)
            ∗ (∃ d, owns (c : Thread nD τ) arg4 fullShare d) ∗ (∃ d, owns (c : Thread nD τ) arg5 fullShare d) ∗ (∃ d, owns (c : Thread nD τ) arg6 fullShare d)
            ∗ (∃ f, pM.view.loc (c : Thread nD τ) ↦[pM.view.set]{fullShare} f)
            ∗ (iprop((arg2.view.loc (c : Thread nD τ) ↦[arg2.view.set]{fullShare} f2) ∗ (arg3.view.loc (c : Thread nD τ) ↦[arg3.view.set]{fullShare} f3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, pM.view.loc (c : Thread nD τ) ↦[pM.view.set]{fullShare} f)) -∗ K ⟨⟩))
          ⊢ wp frame (wpE (defs₀ (F := F)) Variants.none c none) Set.univ
              (tail i arg2 harg2 arg3 harg3 arg4 harg4 arg5 harg5 arg6 harg6 v59) K) := by
  refine ⟨?_, ?_, ?_, fun K => ?run⟩
  case run =>
    unfold tail
    unfold owns
    iintro ⟨H2, H3, ⟨%d4, %f4, -, H4⟩, ⟨%d5, %f5, -, H5⟩, ⟨%d6, %f6, -, H6⟩, ⟨%f8, H8⟩, Hk⟩
    sl_exec
    sl_step
    iapply Hk
    isplitl [H2]
    · iexact H2
    isplitl [H3]
    · iexact H3
    isplitl [H4]; · iexists f4; iexact H4
    isplitl [H5]; · iexists f5; iexact H5
    isplitl [H6]; · iexists f6; iexact H6
    iexists _; iexact H8

end Cert.KernelIdeal.Hand

end
end
-- ==== Proof.Body.lean ====
/-
  Hand-written. The kernel's body at a grid point, whole, and the two ends of the invariant it keeps.
-/
module

public import proofs.«01_k».proof.Proof.Prologue
public import proofs.«01_k».proof.Proof.Await
public import proofs.«01_k».proof.Proof.Tail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The ring before a point, as the first statements of the body take it. -/
theorem ring_take (c : Dev nD) (fx : S2x384x50176.Idx → Elt F .f32) (t : ℕ) (ht : t < 8) :
    (ring c fx t : sProp 𝕄) ⊢ iprop((if t = 0 then Idle4 c fx 0 else Fly4 c fx t) ∗ Idle4 c fx ((t + 1) % 2)) := by
  unfold ring
  by_cases h : t = 0
  · subst h
    rw [if_pos (Or.inl rfl), if_pos rfl]
  · rw [if_neg (by omega), if_neg h]

/-- What the body holds of its own between points: the ring, the part of the input it lends to no transfer, the buffer of
    tap products and the generator register. -/
def PhiS (c : Dev nD) (fx : S2x384x50176.Idx → Elt F .f32) (t : ℕ) : sProp 𝕄 :=
  iprop(ring c fx t ∗ (xM.view.loc (c : Thread nD τ) ↦{Transfers.shareDrop fullShare 8} fx)
    ∗ (∃ f, pM.view.loc (c : Thread nD τ) ↦[pM.view.set]{fullShare} f) ∗ (∃ r, prngReg c r))

/-- The body at a point, from the invariant before it to the invariant after it; the three result blocks are written with
    the pieces of `tailRun` for some slab that is right for the point. -/
theorem body_run (c : Dev nD) (i : grid0.Coords) (fx : S2x384x50176.Idx → Elt F .f32)
    (arg2 : Memref sig .tc .vmem S1x64x12544 .f32) (harg2 : arg2.IsWhole) (arg3 : Memref sig .tc .vmem S576x384 .bf16) (harg3 : arg3.IsWhole)
    (arg4 : Memref sig .tc .vmem S1x8x12544 .f32) (harg4 : arg4.IsWhole) (arg5 : Memref sig .tc .vmem S1x8x12544 .f32) (harg5 : arg5.IsWhole)
    (arg6 : Memref sig .tc .vmem S1x8x12544 .i32) (harg6 : arg6.IsWhole) (W : Waits sig Unit)
    (f2 : Buf (Elt F) (arg2.view.loc (c : Thread nD τ))) (f3 : Buf (Elt F) (arg3.view.loc (c : Thread nD τ))) (K : PUnit → sProp 𝕄) :
    iprop(PhiS c fx (i 0).val ∗ owes (c : Thread nD τ) 0 W
        ∗ (arg2.view.loc (c : Thread nD τ) ↦[arg2.view.set]{fullShare} f2) ∗ (arg3.view.loc (c : Thread nD τ) ↦[arg3.view.set]{fullShare} f3)
        ∗ (∃ d, owns (c : Thread nD τ) arg4 fullShare d) ∗ (∃ d, owns (c : Thread nD τ) arg5 fullShare d) ∗ (∃ d, owns (c : Thread nD τ) arg6 fullShare d)
        ∗ (∀ v59 : Vec F S1x384x13056 .f32, ⌜SlabOK (i 0).val fx v59⌝ -∗
            iprop(PhiS c fx ((i 0).val + 1) ∗ (∃ W', owes (c : Thread nD τ) 0 W')
              ∗ (arg2.view.loc (c : Thread nD τ) ↦[arg2.view.set]{fullShare} f2) ∗ (arg3.view.loc (c : Thread nD τ) ↦[arg3.view.set]{fullShare} f3)
              ∗ (∃ f, arg4.view.loc (c : Thread nD τ) ↦[arg4.view.set]{fullShare} arg4.view.writes (Elt F) f (tailRun c i arg2 harg2 arg3 harg3 arg4 harg4 arg5 harg5 arg6 harg6 v59 f2 f3).1)
              ∗ (∃ f, arg5.view.loc (c : Thread nD τ) ↦[arg5.view.set]{fullShare} arg5.view.writes (Elt F) f (tailRun c i arg2 harg2 arg3 harg3 arg4 harg4 arg5 harg5 arg6 harg6 v59 f2 f3).2.1)
              ∗ (∃ f, arg6.view.loc (c : Thread nD τ) ↦[arg6.view.set]{fullShare} arg6.view.writes (Elt F) f (tailRun c i arg2 harg2 arg3 harg3 arg4 harg4 arg5 harg5 arg6 harg6 v59 f2 f3).2.2.1)) -∗ K ⟨⟩))
      ⊢ wp frame (wpE (defs₀ (F := F)) Variants.none c none) Set.univ
          (cc0__smoe_kernel i xM (Memref.isWhole_whole _) arg2 harg2 arg3 harg3 arg4 harg4 arg5 harg5 arg6 harg6 bM (Memref.isWhole_whole _) pM (Memref.isWhole_whole _) cc0_scratch2) K := by
  have hlt : (i 0).val < 8 := (i 0).isLt
  rw [cc0__smoe_kernel_eq_skeleton]
  unfold cc0__smoe_kernel_skel PhiS
  iintro ⟨⟨HR, HX, HP, HG⟩, HO, H2, H3, H4, H5, H6, Hk⟩
  ihave HR := (ring_take c fx (i 0).val hlt) $$ HR
  iapply (start_next Variants.none c none arg2 harg2 arg3 harg3 arg4 harg4 arg5 harg5 arg6 harg6 i fx) $$ HR
  iintro %u %v ⟨HF, HN⟩
  iapply (await_load Variants.none c none arg2 harg2 arg3 harg3 arg4 harg4 arg5 harg5 arg6 harg6 i fx (W := W)) $$ [HF HO]
  · isplitl [HF] <;> iassumption
  iintro %v59 %hs ⟨HI, HO⟩
  iapply ((tailRun c i arg2 harg2 arg3 harg3 arg4 harg4 arg5 harg5 arg6 harg6 v59 f2 f3).2.2.2 K)
  isplitl [H2]; · iexact H2
  isplitl [H3]; · iexact H3
  isplitl [H4]; · iexact H4
  isplitl [H5]; · iexact H5
  isplitl [H6]; · iexact H6
  isplitl [HP]; · iexact HP
  iintro ⟨H2, H3, H4, H5, H6, HP⟩
  iapply Hk $$ %v59 %hs
  isplitl [HN HI HX HP HG]
  · isplitl [HN HI]
    · iapply (ring_next c fx (i 0).val hlt)
      isplitl [HN] <;> iassumption
    isplitl [HX]; · iexact HX
    isplitl [HP]; · iexact HP
    iexact HG
  isplitl [HO]; · iexact HO
  isplitl [H2]; · iexact H2
  isplitl [H3]; · iexact H3
  isplitl [H4]; · iexact H4
  isplitl [H5]; · iexact H5
  iexact H6

end Cert.KernelIdeal.Hand

end
end
-- ==== Proof.Launch.lean ====
/-
  Hand-written. The launch: the two ends of the invariant, the proof data of the pipeline, and the run of the whole program
  with the contents of the results left open (`frame`).
-/
module

public import proofs.«01_k».proof.Proof.Body
public import proofs.«01_k».proof.Proof.Gen.KernelIdeal.Frame
public import Idealize.ShloMosaic.Lib.Pipeline.FrameSuffixR

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own transfer cells. -/
abbrev osem : Fin 8 → SemLoc sig := fun j => SemLoc.dma (Fin.ofNat 17 (9 + j.val))
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma (cell 0 0)) 0 ∗ semVal ((c : Thread nD τ), SemLoc.dma (cell 0 1)) 0
          ∗ semVal ((c : Thread nD τ), SemLoc.dma (cell 0 2)) 0 ∗ semVal ((c : Thread nD τ), SemLoc.dma (cell 0 3)) 0
          ∗ semVal ((c : Thread nD τ), SemLoc.dma (cell 1 0)) 0 ∗ semVal ((c : Thread nD τ), SemLoc.dma (cell 1 1)) 0
          ∗ semVal ((c : Thread nD τ), SemLoc.dma (cell 1 2)) 0 ∗ semVal ((c : Thread nD τ), SemLoc.dma (cell 1 3)) 0) := by
  rw [Pipeline.ownSems0_eq_of_list c osem [0, 1, 2, 3, 4, 5, 6, 7] (by decide) (by decide)]; rfl

/-- The one operand the body's transfers read. -/
def H0 : Finset (Ref sig .tc) := {main_v0}
theorem H0_sub : H0 ⊆ Pipeline.restRefs sig spec0 := by decide
theorem hbmPts_eq (c : Dev nD) (V : (c : Dev nD) → (b : Ref sig .tc) → Buf (Elt F) ((c.tc : Thread nD τ).loc b)) :
    (bigSep H0 (fun b => ((c : Thread nD τ).loc b) ↦{fullShare} V c b) : sProp 𝕄)
      = iprop(xM.view.loc (c : Thread nD τ) ↦{fullShare} V c main_v0) := by
  rw [BI.bigSep_eq_bigSepL_of_eq [main_v0] (by decide) (by decide)]; rfl

/-- Eight read shares, one by one. -/
theorem toks_eq (c : Dev nD) (fx : S2x384x50176.Idx → Elt F .f32) :
    (BI.bigSep Finset.univ (fun i : Fin 8 => xM.view.loc (c : Thread nD τ) ↦{Transfers.shareTok fullShare 8 i} fx) : sProp 𝕄)
      = iprop((xM.view.loc (c : Thread nD τ) ↦{qx 0 0} fx) ∗ (xM.view.loc (c : Thread nD τ) ↦{qx 0 1} fx)
        ∗ (xM.view.loc (c : Thread nD τ) ↦{qx 0 2} fx) ∗ (xM.view.loc (c : Thread nD τ) ↦{qx 0 3} fx)
        ∗ (xM.view.loc (c : Thread nD τ) ↦{qx 1 0} fx) ∗ (xM.view.loc (c : Thread nD τ) ↦{qx 1 1} fx)
        ∗ (xM.view.loc (c : Thread nD τ) ↦{qx 1 2} fx) ∗ (xM.view.loc (c : Thread nD τ) ↦{qx 1 3} fx)) := by
  rw [BI.bigSep_eq_bigSepL_of_eq [0, 1, 2, 3, 4, 5, 6, 7] (by decide) (by decide)]; rfl

theorem toks_split (c : Dev nD) (fx : S2x384x50176.Idx → Elt F .f32) :
    (xM.view.loc (c : Thread nD τ) ↦{fullShare} fx : sProp 𝕄)
      ⊢ iprop((xM.view.loc (c : Thread nD τ) ↦{Transfers.shareDrop fullShare 8} fx)
        ∗ (xM.view.loc (c : Thread nD τ) ↦{qx 0 0} fx) ∗ (xM.view.loc (c : Thread nD τ) ↦{qx 0 1} fx)
        ∗ (xM.view.loc (c : Thread nD τ) ↦{qx 0 2} fx) ∗ (xM.view.loc (c : Thread nD τ) ↦{qx 0 3} fx)
        ∗ (xM.view.loc (c : Thread nD τ) ↦{qx 1 0} fx) ∗ (xM.view.loc (c : Thread nD τ) ↦{qx 1 1} fx)
        ∗ (xM.view.loc (c : Thread nD τ) ↦{qx 1 2} fx) ∗ (xM.view.loc (c : Thread nD τ) ↦{qx 1 3} fx)) := by
  have h := Transfers.pointsTo_toks_split (ℓ := xM.view.loc (c : Thread nD τ)) (S := Finset.univ) (f := fx) (Ix := Unit) (Name := ℕ) (U := Pipeline.UD sig nD τ) (Lvl := ℕ) fullShare 8
  rw [toks_eq] at h
  exact h

theorem phi_in (c : Dev nD) (V : (c : Dev nD) → (b : Ref sig .tc) → Buf (Elt F) ((c.tc : Thread nD τ).loc b)) :
    (Pipeline.ΦD osem spec0 H0 V c : sProp 𝕄) ⊢ PhiS c (V c main_v0) 0 := by
  rw [Pipeline.ΦD_eq, scopedRest0_eq, ownSems_eq, hbmPts_eq]
  unfold PhiS ring
  rw [if_pos (Or.inl rfl)]
  unfold Idle4 Idle
  iintro ⟨⟨⟨%fb, HB⟩, ⟨%fp, HP⟩⟩, HG, ⟨S00, S01, S02, S03, S10, S11, S12, S13⟩, HX⟩
  ihave HX := (toks_split c (V c main_v0)) $$ HX
  icases HX with ⟨HX, X00, X01, X02, X03, X10, X11, X12, X13⟩
  ihave HB := (show ((c : Thread nD τ).loc cc0_scratch0 ↦{fullShare} fb : sProp 𝕄) ⊢ iprop(bM.view.loc (c : Thread nD τ) ↦[slot 0 ∪ slot 1]{fullShare} fb) from by rw [slots_cover]) $$ HB
  ihave HB := (pointsTo_union (ℓ := bM.view.loc (c : Thread nD τ)) slot_disjoint).1 $$ HB
  icases HB with ⟨HB0, HB1⟩
  ihave HB0 := (slot_split c 0 fb) $$ HB0
  ihave HB1 := (slot_split c 1 fb) $$ HB1
  icases HB0 with ⟨B00, B01, B02, B03⟩
  icases HB1 with ⟨B10, B11, B12, B13⟩
  isplitr [HX HP HG]
  · isplitl [B00 B01 B02 B03 S00 S01 S02 S03 X00 X01 X02 X03]
    · isplitl [B00 S00 X00]
      · isplitl [B00]; · iexists fb; iexact B00
        isplitl [S00] <;> iassumption
      isplitl [B01 S01 X01]
      · isplitl [B01]; · iexists fb; iexact B01
        isplitl [S01] <;> iassumption
      isplitl [B02 S02 X02]
      · isplitl [B02]; · iexists fb; iexact B02
        isplitl [S02] <;> iassumption
      isplitl [B03]; · iexists fb; iexact B03
      isplitl [S03] <;> iassumption
    · isplitl [B10 S10 X10]
      · isplitl [B10]; · iexists fb; iexact B10
        isplitl [S10] <;> iassumption
      isplitl [B11 S11 X11]
      · isplitl [B11]; · iexists fb; iexact B11
        isplitl [S11] <;> iassumption
      isplitl [B12 S12 X12]
      · isplitl [B12]; · iexists fb; iexact B12
        isplitl [S12] <;> iassumption
      isplitl [B13]; · iexists fb; iexact B13
      isplitl [S13] <;> iassumption
  isplitl [HX]; · iexact HX
  isplitl [HP]
  · iexists fp
    rw [(Memref.isWhole_whole cc0_scratch1).set_eq_univ]
    iexact HP
  iexact HG

theorem phi_out (c : Dev nD) (V : (c : Dev nD) → (b : Ref sig .tc) → Buf (Elt F) ((c.tc : Thread nD τ).loc b)) :
    (PhiS c (V c main_v0) 8 : sProp 𝕄) ⊢ Pipeline.ΦD osem spec0 H0 V c := by
  rw [Pipeline.ΦD_eq, scopedRest0_eq, ownSems_eq, hbmPts_eq]
  unfold PhiS ring
  rw [if_pos (Or.inr (le_refl _))]
  unfold Idle4 Idle
  iintro ⟨⟨⟨⟨⟨%f00, B00⟩, S00, X00⟩, ⟨⟨%f01, B01⟩, S01, X01⟩, ⟨⟨%f02, B02⟩, S02, X02⟩, ⟨⟨%f03, B03⟩, S03, X03⟩⟩,
    ⟨⟨⟨%f10, B10⟩, S10, X10⟩, ⟨⟨%f11, B11⟩, S11, X11⟩, ⟨⟨%f12, B12⟩, S12, X12⟩, ⟨⟨%f13, B13⟩, S13, X13⟩⟩⟩, HX, ⟨%fp, HP⟩, HG⟩
  ihave HB0 := (slot_join c 0 f00 f01 f02 f03) $$ [B00 B01 B02 B03]
  · isplitl [B00]; · iexact B00
    isplitl [B01]; · iexact B01
    isplitl [B02] <;> iassumption
  ihave HB1 := (slot_join c 1 f10 f11 f12 f13) $$ [B10 B11 B12 B13]
  · isplitl [B10]; · iexact B10
    isplitl [B11]; · iexact B11
    isplitl [B12] <;> iassumption
  icases HB0 with ⟨%g0, -, HB0⟩
  icases HB1 with ⟨%g1, -, HB1⟩
  ihave HB := (pointsTo_join (ℓ := bM.view.loc (c : Thread nD τ)) slot_disjoint) $$ [HB0 HB1]
  · isplitl [HB0] <;> iassumption
  isplitl [HB HP]
  · isplitl [HB]
    · iexists _
      rw [slots_cover]
      iexact HB
    · iexists fp
      rw [(Memref.isWhole_whole cc0_scratch1).set_eq_univ]
      iexact HP
  isplitl [HG]; · iexact HG
  isplitl [S00 S01 S02 S03 S10 S11 S12 S13]
  · isplitl [S00]; · iexact S00
    isplitl [S01]; · iexact S01
    isplitl [S02]; · iexact S02
    isplitl [S03]; · iexact S03
    isplitl [S10]; · iexact S10
    isplitl [S11]; · iexact S11
    isplitl [S12] <;> iassumption
  iapply (Transfers.pointsTo_toks_join (ℓ := xM.view.loc (c : Thread nD τ)) fullShare 8)
  rw [toks_eq]
  isplitl [HX]; · iexact HX
  isplitl [X00]; · iexact X00
  isplitl [X01]; · iexact X01
  isplitl [X02]; · iexact X02
  isplitl [X03]; · iexact X03
  isplitl [X10]; · iexact X10
  isplitl [X11]; · iexact X11
  isplitl [X12] <;> iassumption

/-- The proof data of the pipeline on core `c`: the arrays as the region finds them, the input blocks left in place, the
    result blocks at `o4`, `o5`, `o6`. -/
def dats (o4 o5 : Dev nD → Fin cfg0.N → Vec F S1x8x12544 .f32) (o6 : Dev nD → Fin cfg0.N → Vec F S1x8x12544 .i32)
    (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => o4 c t
    | ⟨3, _⟩ => o5 c t
    | ⟨4, _⟩ => o6 c t
  Φ t := PhiS c (V m c main_v0) t.val
  q _ := fullShare
  owed _ := 0

variable (o4 o5 : Dev nD → Fin cfg0.N → Vec F S1x8x12544 .f32) (o6 : Dev nD → Fin cfg0.N → Vec F S1x8x12544 .i32)

theorem A_eq (c : Dev nD) (w : Fin cfg0.W) : (dats m o4 o5 o6 0 c).A w = V m c (Pipeline.arrRef spec0 w) := by
  dsimp only [dats]
theorem after_0 (c : Dev nD) (t : Fin cfg0.N) : (dats m o4 o5 o6 0 c).after 0 t = iblk m c 0 t := by dsimp only [dats]
theorem after_1 (c : Dev nD) (t : Fin cfg0.N) : (dats m o4 o5 o6 0 c).after 1 t = iblk m c 1 t := by dsimp only [dats]
theorem after_2 (c : Dev nD) (t : Fin cfg0.N) : (dats m o4 o5 o6 0 c).after 2 t = o4 c t := by dsimp only [dats]
theorem after_3 (c : Dev nD) (t : Fin cfg0.N) : (dats m o4 o5 o6 0 c).after 3 t = o5 c t := by dsimp only [dats]
theorem after_4 (c : Dev nD) (t : Fin cfg0.N) : (dats m o4 o5 o6 0 c).after 4 t = o6 c t := by dsimp only [dats]
theorem before_0 (c : Dev nD) (t : Fin cfg0.N) (d) : (dats m o4 o5 o6 0 c).before 0 t d = iblk m c 0 t :=
  ((dats m o4 o5 o6 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m o4 o5 o6 0 c).before 1 t d = iblk m c 1 t :=
  ((dats m o4 o5 o6 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem phi_castSucc (c : Dev nD) (t : Fin cfg0.N) : (dats m o4 o5 o6 0 c).Φ t.castSucc = PhiS c (V m c main_v0) t.val := by dsimp only [dats]; rw [Fin.val_castSucc]
theorem phi_succ (c : Dev nD) (t : Fin cfg0.N) : (dats m o4 o5 o6 0 c).Φ t.succ = PhiS c (V m c main_v0) (t.val + 1) := by dsimp only [dats]; rw [Fin.val_succ]

theorem coord_eq : ∀ t : Fin grid0.N, (grid0.coords t 0).val = t.val := by decide +kernel

abbrev ms0 (t : Fin cfg0.N) : Memref sig .tc .vmem S1x64x12544 .f32 := win0_0.stage (cfg0.slots t 0)
abbrev ms1 (t : Fin cfg0.N) : Memref sig .tc .vmem S576x384 .bf16 := win0_1.stage (cfg0.slots t 1)
abbrev ms2 (t : Fin cfg0.N) : Memref sig .tc .vmem S1x8x12544 .f32 := win0_2.stage (cfg0.slots t 2)
abbrev ms3 (t : Fin cfg0.N) : Memref sig .tc .vmem S1x8x12544 .f32 := win0_3.stage (cfg0.slots t 3)
abbrev ms4 (t : Fin cfg0.N) : Memref sig .tc .vmem S1x8x12544 .i32 := win0_4.stage (cfg0.slots t 4)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)

/-- The run of the tail at a point's blocks. -/
abbrev runAt (c : Dev nD) (t : Fin cfg0.N) (v59 : Vec F S1x384x13056 .f32)
    (f2 : Buf (Elt F) ((ms0 t).view.loc (c : Thread nD τ))) (f3 : Buf (Elt F) ((ms1 t).view.loc (c : Thread nD τ))) :=
  tailRun c (grid0.coords t) (ms0 t) (hs0 t) (ms1 t) (hs1 t) (ms2 t) (hs2 t) (ms3 t) (hs3 t) (ms4 t) (hs4 t) v59 f2 f3

/-- The body at a point of the grid, with what it leaves in the result blocks handed to any `R` that follows from it. -/
theorem sound_point (c : Dev nD) (t : Fin cfg0.N) (R2 R3 R4 : sProp 𝕄)
    (h : ∀ (v59 : Vec F S1x384x13056 .f32) (f2 : Buf (Elt F) ((ms0 t).view.loc (c : Thread nD τ))) (f3 : Buf (Elt F) ((ms1 t).view.loc (c : Thread nD τ))),
      SlabOK t.val (V m c main_v0) v59 → (ms0 t).view.read (Elt F) f2 = iblk m c 0 t → (ms1 t).view.read (Elt F) f3 = iblk m c 1 t →
      ((iprop(∃ f, (ms2 t).view.loc (c : Thread nD τ) ↦[(ms2 t).view.set]{fullShare} (ms2 t).view.writes (Elt F) f (runAt c t v59 f2 f3).1) ⊢ R2)
      ∧ (iprop(∃ f, (ms3 t).view.loc (c : Thread nD τ) ↦[(ms3 t).view.set]{fullShare} (ms3 t).view.writes (Elt F) f (runAt c t v59 f2 f3).2.1) ⊢ R3)
      ∧ (iprop(∃ f, (ms4 t).view.loc (c : Thread nD τ) ↦[(ms4 t).view.set]{fullShare} (ms4 t).view.writes (Elt F) f (runAt c t v59 f2 f3).2.2.1) ⊢ R4))) :
    iprop(PhiS c (V m c main_v0) t.val ∗ (∃ W, owes (c : Thread nD τ) 0 W)
      ∗ owns (c : Thread nD τ) (ms0 t) fullShare (iblk m c 0 t) ∗ owns (c : Thread nD τ) (ms1 t) fullShare (iblk m c 1 t)
      ∗ (∃ d, owns (c : Thread nD τ) (ms2 t) fullShare d) ∗ (∃ d, owns (c : Thread nD τ) (ms3 t) fullShare d) ∗ (∃ d, owns (c : Thread nD τ) (ms4 t) fullShare d))
      ⊢ wp frame (wpE (defs₀ (F := F)) Variants.none c none) Set.univ (bodyAt0 t) (fun _ =>
        iprop(PhiS c (V m c main_v0) (t.val + 1) ∗ (∃ W, owes (c : Thread nD τ) 0 W)
          ∗ owns (c : Thread nD τ) (ms0 t) fullShare (iblk m c 0 t) ∗ owns (c : Thread nD τ) (ms1 t) fullShare (iblk m c 1 t)
          ∗ R2 ∗ R3 ∗ R4)) := by
  have hb := fun W f2 f3 K => body_run c (grid0.coords t) (V m c main_v0) (ms0 t) (hs0 t) (ms1 t) (hs1 t) (ms2 t) (hs2 t) (ms3 t) (hs3 t) (ms4 t) (hs4 t) W f2 f3 K
  simp only [coord_eq t] at hb
  unfold bodyAt0
  rw [show (owns (c : Thread nD τ) (ms0 t) fullShare (iblk m c 0 t) : sProp 𝕄) = iprop(∃ f, ⌜(ms0 t).view.read (Elt F) f = iblk m c 0 t⌝ ∗ (ms0 t).view.loc (c : Thread nD τ) ↦[(ms0 t).view.set]{fullShare} f) from rfl,
    show (owns (c : Thread nD τ) (ms1 t) fullShare (iblk m c 1 t) : sProp 𝕄) = iprop(∃ f, ⌜(ms1 t).view.read (Elt F) f = iblk m c 1 t⌝ ∗ (ms1 t).view.loc (c : Thread nD τ) ↦[(ms1 t).view.set]{fullShare} f) from rfl]
  iintro ⟨HΦ, ⟨%W, HW⟩, ⟨%f2, %e2, H0⟩, ⟨%f3, %e3, H1⟩, H2, H3, H4⟩
  iapply (hb W f2 f3 _)
  isplitl [HΦ]; · iexact HΦ
  isplitl [HW]; · iexact HW
  isplitl [H0]; · iexact H0
  isplitl [H1]; · iexact H1
  isplitl [H2]; · iexact H2
  isplitl [H3]; · iexact H3
  isplitl [H4]; · iexact H4
  iintro %v59 %hs ⟨HΦ, HW, H0, H1, H2, H3, H4⟩
  obtain ⟨h2, h3, h4⟩ := h v59 f2 f3 hs e2 e3
  isplitl [HΦ]; · iexact HΦ
  isplitl [HW]; · iexact HW
  isplitl [H0]
  · iexists f2; isplitr; · ipureintro; exact e2
    iexact H0
  isplitl [H1]
  · iexists f3; isplitr; · ipureintro; exact e3
    iexact H1
  isplitl [H2]; · iapply h2 $$ H2
  isplitl [H3]; · iapply h3 $$ H3
  iapply h4 $$ H4

theorem defs₀_row (t : Fin cfg0.N) :
    defs₀ (F := F) .tc cfg0.body (cfg0.bodyArgs t (cfg0.slots t)) = bodyAt0 t := by
  unfold defs₀; rw [Defs.onTc_tc]

/-- The main program around the region. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) (fun b hb => ?_)
  obtain rfl : b = main_v0 := Finset.mem_singleton.mp hb
  simp only [hostOps1, List.mem_cons, List.mem_nil_iff, or_false] at hop
  rcases hop with rfl | rfl | rfl <;>
    (simp only [StableHlo.reshape_bufs, Finset.mem_insert, Finset.mem_singleton, not_or]
     exact ⟨StableHlo.devRef_ne_of_ne (by decide), StableHlo.devRef_ne_of_ne (by decide)⟩)

/-! ## The frame: the results left open -/

/-- The result windows, whose contents the frame leaves open. -/
def fgt : Fin cfg0.W → Bool := fun w => match w with
  | ⟨0, _⟩ => false
  | ⟨1, _⟩ => false
  | ⟨2, _⟩ => true
  | ⟨3, _⟩ => true
  | ⟨4, _⟩ => true

theorem owns_some (c : Dev nD) {S : Shape} {e : EltTy} (M : Memref sig .tc .vmem S e) (L : List (View.Piece (Elt F) S e)) :
    (iprop(∃ f, M.view.loc (c : Thread nD τ) ↦[M.view.set]{fullShare} M.view.writes (Elt F) f L) : sProp 𝕄)
      ⊢ iprop(∃ X, owns (c : Thread nD τ) M fullShare X) := by
  unfold owns
  iintro ⟨%f, H⟩
  iexists _, _; isplitr
  swap; · iexact H
  ipureintro; rfl

def bodyPre (c : Dev nD) (t : Fin cfg0.N) : sProp 𝕄 :=
  iprop((dats m o4 o5 o6 0 c).Φ t.castSucc ∗ (dats m o4 o5 o6 0 c).owesAt () t.castSucc
    ∗ (∃ d, owns (c : Thread nD τ) (ms0 t) fullShare ((dats m o4 o5 o6 0 c).before 0 t d))
    ∗ (∃ d, owns (c : Thread nD τ) (ms1 t) fullShare ((dats m o4 o5 o6 0 c).before 1 t d))
    ∗ (∃ X, owns (c : Thread nD τ) (ms2 t) fullShare X) ∗ (∃ X, owns (c : Thread nD τ) (ms3 t) fullShare X) ∗ (∃ X, owns (c : Thread nD τ) (ms4 t) fullShare X))
def bodyPost (c : Dev nD) (t : Fin cfg0.N) (R2 R3 R4 : sProp 𝕄) : sProp 𝕄 :=
  iprop((dats m o4 o5 o6 0 c).Φ t.succ ∗ (dats m o4 o5 o6 0 c).owesAt () t.succ
    ∗ owns (c : Thread nD τ) (ms0 t) fullShare ((dats m o4 o5 o6 0 c).after 0 t)
    ∗ owns (c : Thread nD τ) (ms1 t) fullShare ((dats m o4 o5 o6 0 c).after 1 t)
    ∗ R2 ∗ R3 ∗ R4)

/-- `sound_point` in the launch's words. -/
theorem sound_body (c : Dev nD) (t : Fin cfg0.N) (R2 R3 R4 : sProp 𝕄)
    (h : ∀ (v59 : Vec F S1x384x13056 .f32) (f2 : Buf (Elt F) ((ms0 t).view.loc (c : Thread nD τ))) (f3 : Buf (Elt F) ((ms1 t).view.loc (c : Thread nD τ))),
      SlabOK t.val (V m c main_v0) v59 → (ms0 t).view.read (Elt F) f2 = iblk m c 0 t → (ms1 t).view.read (Elt F) f3 = iblk m c 1 t →
      ((iprop(∃ f, (ms2 t).view.loc (c : Thread nD τ) ↦[(ms2 t).view.set]{fullShare} (ms2 t).view.writes (Elt F) f (runAt c t v59 f2 f3).1) ⊢ R2)
      ∧ (iprop(∃ f, (ms3 t).view.loc (c : Thread nD τ) ↦[(ms3 t).view.set]{fullShare} (ms3 t).view.writes (Elt F) f (runAt c t v59 f2 f3).2.1) ⊢ R3)
      ∧ (iprop(∃ f, (ms4 t).view.loc (c : Thread nD τ) ↦[(ms4 t).view.set]{fullShare} (ms4 t).view.writes (Elt F) f (runAt c t v59 f2 f3).2.2.1) ⊢ R4))) :
    bodyPre m o4 o5 o6 c t ⊢ wp frame (wpE (defs₀ (F := F)) Variants.none c none) Set.univ (bodyAt0 t) (fun _ => bodyPost m o4 o5 o6 c t R2 R3 R4) := by
  unfold bodyPre bodyPost
  simp only [before_0, before_1]
  rw [phi_castSucc, phi_succ, after_0, after_1]
  unfold Dat.owesAt Pipeline.owesWithin
  rw [show (dats m o4 o5 o6 0 c).owed t.castSucc = 0 from rfl, show (dats m o4 o5 o6 0 c).owed t.succ = 0 from rfl]
  refine BIBase.Entails.trans ?_ ((sound_point m c t R2 R3 R4 h).trans (wp_mono _ _ _ fun _ => ?_))
  · iintro ⟨HΦ, ⟨%W, -, HW⟩, ⟨%_, H0⟩, ⟨%_, H1⟩, H2, H3, H4⟩
    isplitl [HΦ]; · iexact HΦ
    isplitl [HW]; · iexists W; iexact HW
    isplitl [H0]; · iexact H0
    isplitl [H1]; · iexact H1
    isplitl [H2]; · iexact H2
    isplitl [H3] <;> iassumption
  · iintro ⟨HΦ, ⟨%W, HW⟩, H0, H1, H2, H3, H4⟩
    isplitl [HΦ]; · iexact HΦ
    isplitl [HW]
    · iexists W; isplitr; · ipureintro; exact fun _ _ => Or.inl trivial
      iexact HW
    isplitl [H0]; · iexact H0
    isplitl [H1]; · iexact H1
    isplitl [H2]; · iexact H2
    isplitl [H3] <;> iassumption

theorem body_open (c : Dev nD) : BodyObligation (dats m o4 o5 o6 0 c) (defs₀ (F := F)) Variants.none () Set.univ fgt := fun t => by
  rw [bigSep_W0, bigSep_W0, defs₀_row]
  exact triple_restated (sound_body m o4 o5 o6 c t _ _ _ fun v59 f2 f3 _ _ _ => ⟨owns_some c _ _, owns_some c _ _, owns_some c _ _⟩) rfl .rfl fun _ => .rfl

/-- The buffers the lines after the region write. -/
def T0 : Finset (Ref sig .tc) := {main_v6, main_v7, main_v8}
theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl <;> rw [StableHlo.reshape_writes, Finset.mem_singleton] at hb <;>
    (obtain rfl := Proc.devRef_injective _ hb; decide)

/-- The proof data of the frame: nothing said of the result blocks. -/
abbrev datsOpen : (p : Fin 1) → (c : Dev nD) → Dat τ (Elt F) Unit ℕ (Pipeline.UD sig nD τ) ℕ cfg0 c :=
  dats m (fun _ _ _ => Classical.choice (Elt.nonempty F _)) (fun _ _ _ => Classical.choice (Elt.nonempty F _)) (fun _ _ _ => Classical.choice (Elt.nonempty F _))

set_option backward.isDefEq.respectTransparency.types false in
theorem run_open : θ_run defs (onTc (τ := τ) (main (F := F))) (s₀ m ρ) (fun r =>
    Pipeline.RDat.FramePostR cfg0 (fun c => (datsOpen m 0 c).toRForget fgt) T0 (V m) r ∧ r.2.sem = fun _ => 0) :=
  Pipeline.θ_run_frame_dma_around_T_forget (Q' := _) cfgs (datsOpen m) (0 : Fin 1) launch0 osem defs₀ Variants.none fgt ownSemFacts H0 T0 H0_sub m ρ main
    (hbody := fun c => (body_open m _ _ _ c).loose) (hshare := fun c => (datsOpen m 0 c).share_full fun _ => rfl)
    (howed := fun _ _ => rfl) (V₀ := V0 m) (opss := [hostOps1]) (hsub := sfx_subD) (hfresh := sfx_fresh) (hkeep := sfx_keeps) (hT := sfx_T)
    (hmain := hmainD m) (hA := A_eq m _ _ _) (hin := fun c => phi_in c (V m)) (hout := fun c => phi_out c (V m))

/-- The frame: the program ends, its three arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c)⟩, h.2⟩) (run_open m ρ)

end Cert.KernelIdeal.Hand

end
end
-- ==== Proof.Transport.lean ====
/-
  Hand-written. The program at machine numbers is the idealized program's text, so the frame proved for the latter at any
  number type is the former's too.
-/
module

public import proofs.«01_k».proof.Proof.Gen.Kernel
public import proofs.«01_k».proof.Proof.Launch

@[expose] public section

set_option maxRecDepth 65536

namespace Cert.KernelIdeal.Hand

open Idealize.ShloMosaic Idealize.ShloMosaic.TcCoe
open Idealize.SL.Sem

variable {F : FTy → Type} [FloatOps F]

theorem defs₀_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

theorem defs_same : Cert.Kernel.defs (F := F) = Cert.KernelIdeal.defs (F := F) := by
  unfold Cert.Kernel.defs Cert.KernelIdeal.defs
  exact congrArg (Pipeline.defs (Cert.KernelIdeal.pcfgs (F := F))) defs₀_same

theorem main_same : Cert.Kernel.main (F := F) = Cert.KernelIdeal.main (F := F) := rfl

/-- The frame of the program as traced. -/
theorem frame_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [main_same, defs_same]
  exact frame m g

end Cert.KernelIdeal.Hand

end
-- ==== Proof.Chain.lean ====
/-
  Hand-written. What a point stores, in terms of one round function: the block of routing weights, with the entries picked in
  the earlier rounds overwritten.
-/
module

public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The expert numbers. -/
def rowNo : IVec S64x12544 32 := iota .tc S64x12544 32 [0] iota_S64x12544_d0_w32

/-- The greatest weight of each pixel. -/
def rMax (a : FVec F S64x12544 .f32) : FVec F S12544 .f32 :=
  multiReduction .maximumf [0] S12544 a 0xFF800000#32 reduces_S64x12544_S12544 (.inl rfl) rfl

/-- A row of the block, repeated for every expert. -/
def rBcast {α : Type} (v : S12544.Idx → α) : S64x12544.Idx → α :=
  broadcastTo S64x12544 (shapeCast S1x12544 v shapeCasts_S12544_S1x12544) broadcasts_S1x12544_S64x12544

/-- The first expert that has the greatest weight. -/
def rArg (a : FVec F S64x12544 .f32) : IVec S12544 32 :=
  multiReductionI .minsi [0] S12544 (select (cmpf .oeq a (rBcast (rMax a))) rowNo (broadcast S64x12544 64#32)) 2147483647#32
    reduces_S64x12544_S12544 rfl

/-- The mask of that expert. -/
def rHit (a : FVec F S64x12544 .f32) : IVec S64x12544 1 := cmpi .eq rowNo (rBcast (rArg a))

/-- The block with that expert's weight overwritten. -/
def rNext (a : FVec F S64x12544 .f32) : FVec F S64x12544 .f32 :=
  select (rHit a) (broadcast S64x12544 (Scalar.ofBits .f32 0xFF800000#32)) a

/-- That expert's convolution, scaled by the weight. -/
def rSel (acc a : FVec F S64x12544 .f32) : FVec F S12544 .f32 :=
  mulf (multiReduction .add [0] S12544 (select (rHit a) acc (broadcast S64x12544 (Scalar.ofBits .f32 0x00000000#32))) 0x00000000#32
    reduces_S64x12544_S12544 (.inl rfl) rfl) (rMax a)

/-- The block of weights in round `k`. -/
def rAt (a : FVec F S64x12544 .f32) : ℕ → FVec F S64x12544 .f32
  | 0 => a
  | k + 1 => rNext (rAt a k)

/-- A row of a result block. -/
def asRow {α : Type} (v : S12544.Idx → α) : S1x1x12544.Idx → α := shapeCast S1x1x12544 v shapeCasts_S12544_S1x1x12544

/-- Eight rows, stored one by one. -/
def rowPieces {e : EltTy} (row : ℕ → Vec F S12544 e) : List (View.Piece (Elt F) S1x8x12544 e) :=
  [⟨Rect.unit ![0, 7, 0] S1x1x12544.size inb_S1x8x12544_S1x1x12544_0_7_0, asRow (row 7)⟩,
   ⟨Rect.unit ![0, 6, 0] S1x1x12544.size inb_S1x8x12544_S1x1x12544_0_6_0, asRow (row 6)⟩,
   ⟨Rect.unit ![0, 5, 0] S1x1x12544.size inb_S1x8x12544_S1x1x12544_0_5_0, asRow (row 5)⟩,
   ⟨Rect.unit ![0, 4, 0] S1x1x12544.size inb_S1x8x12544_S1x1x12544_0_4_0, asRow (row 4)⟩,
   ⟨Rect.unit ![0, 3, 0] S1x1x12544.size inb_S1x8x12544_S1x1x12544_0_3_0, asRow (row 3)⟩,
   ⟨Rect.unit ![0, 2, 0] S1x1x12544.size inb_S1x8x12544_S1x1x12544_0_2_0, asRow (row 2)⟩,
   ⟨Rect.unit ![0, 1, 0] S1x1x12544.size inb_S1x8x12544_S1x1x12544_0_1_0, asRow (row 1)⟩,
   ⟨Rect.unit ![0, 0, 0] S1x1x12544.size inb_S1x8x12544_S1x1x12544_0_0_0, asRow (row 0)⟩]

section
variable (c : Dev nD) (i : grid0.Coords) (arg2 : Memref sig .tc .vmem S1x64x12544 .f32) (arg3 : Memref sig .tc .vmem S576x384 .bf16)
  (v59 : Vec F S1x384x13056 .f32)
  (f2 : Buf (Elt F) (arg2.view.loc (c : Thread nD τ))) (f3 : Buf (Elt F) (arg3.view.loc (c : Thread nD τ)))

/-- The block of weights that a point loads. -/
def rw0 : FVec F S64x12544 .f32 :=
  k0_pay12 (View.readAt (Elt F) arg2.view (Rect.unit ![0, 0, 0] S1x64x12544.size inb_S1x64x12544_S1x64x12544_0_0_0).toLoadRect f2)

theorem e6 : tailRun.sl.r_6 c arg2 f2 = rAt (rw0 c arg2 f2) 0 := rfl
theorem e7 : tailRun.sl.r_7 c arg2 f2 = rMax (rAt (rw0 c arg2 f2) 0) := rfl
theorem e8 : tailRun.sl.r_8 c arg2 f2 = rArg (rAt (rw0 c arg2 f2) 0) := rfl
theorem e9 : tailRun.sl.r_9 c arg2 f2 = rHit (rAt (rw0 c arg2 f2) 0) := rfl
theorem e10 : tailRun.sl.r_10 c arg2 f2 = rAt (rw0 c arg2 f2) 1 := by unfold tailRun.sl.r_10; rw [e6, e9]; rfl
theorem e11 : tailRun.sl.r_11 c arg2 f2 = rMax (rAt (rw0 c arg2 f2) 1) := by unfold tailRun.sl.r_11; rw [e6, e9]; rfl
theorem e12 : tailRun.sl.r_12 c arg2 f2 = rArg (rAt (rw0 c arg2 f2) 1) := by unfold tailRun.sl.r_12; rw [e6, e9]; rfl
theorem e13 : tailRun.sl.r_13 c arg2 f2 = rHit (rAt (rw0 c arg2 f2) 1) := by unfold tailRun.sl.r_13; rw [e6, e9]; rfl
theorem e14 : tailRun.sl.r_14 c arg2 f2 = rAt (rw0 c arg2 f2) 3 := by unfold tailRun.sl.r_14; rw [e10, e13]; rfl
theorem e15 : tailRun.sl.r_15 c arg2 f2 = rMax (rAt (rw0 c arg2 f2) 3) := by unfold tailRun.sl.r_15; rw [e10, e13]; rfl
theorem e16 : tailRun.sl.r_16 c arg2 f2 = cmpf .oeq (rAt (rw0 c arg2 f2) 3) (rBcast (rMax (rAt (rw0 c arg2 f2) 3))) := by unfold tailRun.sl.r_16; rw [e10, e13]; rfl
theorem e17 : tailRun.sl.r_17 c arg2 f2 = rAt (rw0 c arg2 f2) 4 := by unfold tailRun.sl.r_17; rw [e14, e16]; rfl
theorem e18 : tailRun.sl.r_18 c arg2 f2 = rMax (rAt (rw0 c arg2 f2) 4) := by unfold tailRun.sl.r_18; rw [e14, e16]; rfl
theorem e19 : tailRun.sl.r_19 c arg2 f2 = rArg (rAt (rw0 c arg2 f2) 4) := by unfold tailRun.sl.r_19; rw [e14, e16]; rfl
theorem e20 : tailRun.sl.r_20 c arg2 f2 = rHit (rAt (rw0 c arg2 f2) 4) := by unfold tailRun.sl.r_20; rw [e14, e16]; rfl
theorem e21 : tailRun.sl.r_21 c i arg2 arg3 v59 f2 f3 = rSel (tailRun.sl.r_5 c i arg3 v59 f3) (rAt (rw0 c arg2 f2) 4) := by
  unfold tailRun.sl.r_21; rw [e14, e16]; rfl
theorem e22 : tailRun.sl.r_22 c arg2 f2 = rAt (rw0 c arg2 f2) 5 := by unfold tailRun.sl.r_22; rw [e17, e20]; rfl
theorem e23 : tailRun.sl.r_23 c arg2 f2 = rHit (rAt (rw0 c arg2 f2) 5) := by unfold tailRun.sl.r_23; rw [e17, e20]; rfl
theorem e24 : tailRun.sl.r_24 c arg2 f2 = asRow (rArg (rAt (rw0 c arg2 f2) 5)) := by unfold tailRun.sl.r_24; rw [e17, e20]; rfl
theorem e25 : tailRun.sl.r_25 c arg2 f2 = rMax (rAt (rw0 c arg2 f2) 7) := by unfold tailRun.sl.r_25; rw [e22, e23]; rfl
theorem e26 : tailRun.sl.r_26 c arg2 f2 = rArg (rAt (rw0 c arg2 f2) 7) := by unfold tailRun.sl.r_26; rw [e22, e23]; rfl
theorem e27 : tailRun.sl.r_27 c arg2 f2 = rHit (rAt (rw0 c arg2 f2) 7) := by unfold tailRun.sl.r_27; rw [e22, e23]; rfl

variable (harg2 : arg2.IsWhole) (harg3 : arg3.IsWhole)
  (arg4 : Memref sig .tc .vmem S1x8x12544 .f32) (harg4 : arg4.IsWhole) (arg5 : Memref sig .tc .vmem S1x8x12544 .f32) (harg5 : arg5.IsWhole)
  (arg6 : Memref sig .tc .vmem S1x8x12544 .i32) (harg6 : arg6.IsWhole)

/-- The rows of the selected convolutions. -/
theorem pieces4 : (tailRun c i arg2 harg2 arg3 harg3 arg4 harg4 arg5 harg5 arg6 harg6 v59 f2 f3).1
    = rowPieces fun k => rSel (tailRun.sl.r_5 c i arg3 v59 f3) (rAt (rw0 c arg2 f2) k) := by
  unfold tailRun
  dsimp only
  rw [e21, e25, e27, e22, e23, e17, e20, e15, e16, e10, e13, e7, e9, e6]
  rfl

/-- The rows of the weights. -/
theorem pieces5 : (tailRun c i arg2 harg2 arg3 harg3 arg4 harg4 arg5 harg5 arg6 harg6 v59 f2 f3).2.1
    = rowPieces fun k => rMax (rAt (rw0 c arg2 f2) k) := by
  unfold tailRun
  dsimp only
  rw [e25, e22, e23, e17, e20, e18, e15, e10, e13, e11, e7]
  rfl

/-- The rows of the expert numbers. -/
theorem pieces6 : (tailRun c i arg2 harg2 arg3 harg3 arg4 harg4 arg5 harg5 arg6 harg6 v59 f2 f3).2.2.1
    = rowPieces fun k => rArg (rAt (rw0 c arg2 f2) k) := by
  unfold tailRun
  dsimp only
  rw [e26, e22, e23, e24, e19, e16, e10, e13, e12, e8]
  rfl
end

end Cert.KernelIdeal.Hand

end
end
-- ==== Proof.Select.lean ====
/-
  Hand-written. Selection by repeated maximum is the head of a stable descending sort.
-/
module

public import Idealize.ShloMosaic.Lib.SortPrefix
public import Mathlib.Data.EReal.Basic

@[expose] public section

namespace Cert.KernelIdeal.Hand

open Idealize.ShloMosaic

/-- A stable sort of an increasing list asks its comparator only whether a later element goes before an earlier one. -/
theorem stableSort_of_increasing {n : ℕ} (R S : Fin n → Fin n → Bool) (h : ∀ a b, a < b → R b a = S b a) (l : List (Fin n))
    (hl : l.Pairwise (· < ·)) : stableSort R l = stableSort S l := by
  induction l with
  | nil => rfl
  | cons a l ih =>
    obtain ⟨ha, hl⟩ := List.pairwise_cons.mp hl
    rw [stableSort, stableSort, ih hl]
    exact insertBefore_congr R S a _ fun b hb => h a b (ha b ((perm_stableSort S l).mem_iff.mp hb))

/-- Greater first, and of equals the lower position first. -/
noncomputable def beats {n : ℕ} (a : Fin n → EReal) (k k' : Fin n) : Bool :=
  decide (a k' < a k) || (decide (a k = a k') && decide (k < k'))

theorem beats_total {n : ℕ} (a : Fin n → EReal) : StrictTotalBefore (beats a) :=
  StrictTotalBefore.of_key_then_position (fun x y => decide (y < x)) a (fun x => by simp)
    (fun x y z h h' => by simp only [decide_eq_true_eq] at *; exact h'.trans h)
    (fun x y => by
      simp only [decide_eq_true_eq]
      rcases lt_trichotomy x y with h | h | h
      · exact Or.inr (Or.inr h)
      · exact Or.inr (Or.inl h)
      · exact Or.inl h)

theorem sortedFrom_greater {n : ℕ} (a : Fin n → EReal) :
    sortedFrom (fun k k' : Fin n => decide (a k' < a k)) = sortedFrom (beats a) := by
  have h : sortPositions n (fun k k' : Fin n => decide (a k' < a k)) = sortPositions n (beats a) :=
    stableSort_of_increasing _ _ (fun x y hxy => by simp [beats, not_lt.mpr hxy.le]) _ (List.pairwise_lt_finRange n)
  funext k
  unfold sortedFrom
  rw [List.get_of_eq h]
  rfl

/-- `e 0`, `e 1`, … are picked one after another: each is the first position of the greatest entry, and is then
    overwritten with `⊥`. -/
structure Rounds {n : ℕ} (A : ℕ → Fin n → EReal) (e : ℕ → Fin n) : Prop where
  step : ∀ r, A (r + 1) = fun x => if x = e r then ⊥ else A r x
  greatest : ∀ r x, A r x ≤ A r (e r)
  first : ∀ r x, x < e r → A r x ≠ A r (e r)

namespace Rounds

variable {n : ℕ} {A : ℕ → Fin n → EReal} {e : ℕ → Fin n} (h : Rounds A e)
include h

/-- What is left in round `r`. -/
theorem left (r : ℕ) (x : Fin n) : A r x = if ∃ j, j < r ∧ e j = x then ⊥ else A 0 x := by
  induction r with
  | zero => simp
  | succ r ih =>
    rw [h.step]
    by_cases hx : x = e r
    · show (if x = e r then ⊥ else A r x) = _
      rw [if_pos hx, if_pos ⟨r, Nat.lt_succ_self r, hx.symm⟩]
    · show (if x = e r then ⊥ else A r x) = _
      rw [if_neg hx, ih]
      refine if_congr ⟨fun ⟨j, hj, hj'⟩ => ⟨j, Nat.lt_succ_of_lt hj, hj'⟩, fun ⟨j, hj, hj'⟩ => ⟨j, ?_, hj'⟩⟩ rfl rfl
      rcases Nat.lt_succ_iff_lt_or_eq.mp hj with hj | rfl
      · exact hj
      · exact absurd hj'.symm hx

variable (hA : ∀ x, ⊥ < A 0 x)
include hA

/-- While fewer than `n` positions are picked, the next one is new. -/
theorem fresh (r : ℕ) (hr : r < n) : ¬ ∃ j, j < r ∧ e j = e r := by
  intro hp
  have hb : A r (e r) = ⊥ := by rw [h.left, if_pos hp]
  have hall : ∀ x, ∃ j, j < r ∧ e j = x := fun x => by
    by_contra hx
    have := h.greatest r x
    rw [hb, h.left, if_neg hx] at this
    exact absurd (hA x) (not_lt.mpr this)
  have hs : Function.Surjective (fun j : Fin r => e j) := fun x => by
    obtain ⟨j, hj, hx⟩ := hall x
    exact ⟨⟨j, hj⟩, hx⟩
  have := Fintype.card_le_of_surjective _ hs
  simp only [Fintype.card_fin] at this
  omega

/-- The picked entry is the original one. -/
theorem picked (r : ℕ) (hr : r < n) : A r (e r) = A 0 (e r) := by
  rw [h.left, if_neg (h.fresh hA r hr)]

/-- The position picked in round `r` is not beaten by one that is not picked before. -/
theorem unbeaten (r : ℕ) (hr : r < n) (x : Fin n) (hx : ¬ ∃ j, j < r ∧ e j = x) : beats (A 0) x (e r) = false := by
  have hx' : A r x = A 0 x := by rw [h.left, if_neg hx]
  have hg := h.greatest r x
  have hf := h.first r x
  rw [hx', h.picked hA r hr] at hg hf
  simp only [beats, Bool.or_eq_false_iff, decide_eq_false_iff_not, Bool.and_eq_false_iff]
  refine ⟨not_lt.mpr hg, ?_⟩
  by_cases hlt : x < e r
  · exact Or.inl (hf hlt)
  · exact Or.inr hlt

/-- The first `k` picks are the first `k` of the stable descending sort. -/
theorem sorted {k : ℕ} (hk : k ≤ n) (r : Fin k) :
    sortedFrom (fun x y : Fin n => decide (A 0 y < A 0 x)) (r.castLE hk) = e r := by
  have hne : ∀ i j : Fin k, i < j → e i ≠ e j := fun i j hij he => h.fresh hA j (j.isLt.trans_le hk) ⟨i, hij, he⟩
  rw [sortedFrom_greater]
  refine (beats_total (A 0)).sortedFrom_eq_of_prefix hk (fun i => e i) (fun i j hij => ?_) (fun i j hij => ?_) (fun i p hp => ?_) r
  · rcases lt_trichotomy i j with hlt | rfl | hlt
    · exact absurd hij (hne i j hlt)
    · rfl
    · exact absurd hij.symm (hne j i hlt)
  · refine h.unbeaten hA i (i.isLt.trans_le hk) _ fun ⟨l, hl, hl'⟩ => ?_
    exact hne ⟨l, (hl.trans hij).trans j.isLt⟩ j (hl.trans hij) hl'
  · refine h.unbeaten hA i (i.isLt.trans_le hk) _ fun ⟨l, hl, hl'⟩ => ?_
    exact hp ⟨l, hl.trans i.isLt⟩ hl'

end Rounds

end Cert.KernelIdeal.Hand

end
-- ==== Proof.Column.lean ====
/-
  Hand-written. The rounds of the kernel read at one pixel: its 64 weights, of which each round takes the first greatest one
  and overwrites it.
-/
module

public import proofs.«01_k».proof.Proof.Chain
public import proofs.«01_k».proof.Proof.Select
public import Idealize.ShloMosaic.PureOps.Ideal.Laws
public import Idealize.ShloMosaic.Lib.Pipeline.Value
public import Idealize.ShloMosaic.Lib.Pointwise.Index
public import Idealize.ShloMosaic.Lib.Pointwise.Reshape

@[expose] public section

set_option maxRecDepth 16384

noncomputable section

namespace Cert.KernelIdeal.Hand

open Cert.KernelIdeal Cert.KernelIdeal.Gen
open Idealize.ShloMosaic

/-! ## The mathematics -/

theorem first_exists (a : Fin 64 → EReal) : ∃ i, (∀ x, a x ≤ a i) ∧ ∀ x, x < i → a x ≠ a i := by
  obtain ⟨t, -, ht⟩ := Finset.exists_max_image Finset.univ a Finset.univ_nonempty
  have hne : (Finset.univ.filter fun x => a x = a t).Nonempty := ⟨t, by simp⟩
  refine ⟨(Finset.univ.filter fun x => a x = a t).min' hne, ?_, ?_⟩
  · have h := (Finset.mem_filter.mp (Finset.min'_mem _ hne)).2
    intro x; rw [h]; exact ht x (Finset.mem_univ x)
  · have h := (Finset.mem_filter.mp (Finset.min'_mem _ hne)).2
    intro x hx he
    rw [h] at he
    exact absurd (Finset.min'_le _ x (by simp [he])) (not_le.mpr hx)

/-- The first expert of greatest weight. -/
def top (a : Fin 64 → EReal) : Fin 64 := (first_exists a).choose
theorem le_top (a : Fin 64 → EReal) (x : Fin 64) : a x ≤ a (top a) := (first_exists a).choose_spec.1 x
theorem ne_top (a : Fin 64 → EReal) (x : Fin 64) (h : x < top a) : a x ≠ a (top a) := (first_exists a).choose_spec.2 x h

/-- The weights of a pixel in round `k`. -/
def left (w : Fin 64 → EReal) : ℕ → Fin 64 → EReal
  | 0 => w
  | k + 1 => fun x => if x = top (left w k) then ⊥ else left w k x

/-- The expert picked in round `k`. -/
def pick (w : Fin 64 → EReal) (k : ℕ) : Fin 64 := top (left w k)

theorem rounds (w : Fin 64 → EReal) : Rounds (left w) (pick w) where
  step _ := rfl
  greatest r x := le_top _ x
  first r x h := ne_top _ x h

/-! ## The kernel's round, at a pixel -/

theorem maximum_eq (a : Fin 64 → EReal) : (Finset.univ : Finset (Fin 64)).fold max ⊥ a = a (top a) := by
  apply le_antisymm
  · rw [Finset.fold_max_le]; exact ⟨bot_le, fun x _ => le_top a x⟩
  · rw [Finset.le_fold_max]; exact Or.inr ⟨top a, Finset.mem_univ _, le_rfl⟩

/-- A fold of the signed minimum is below everything it folds, and one of the values. -/
theorem fold_minimum (s : Finset (Fin 64)) (i : BitVec 32) (f : Fin 64 → BitVec 32) :
    (∀ x ∈ s, (s.fold IntOp.minsi i f).toInt ≤ (f x).toInt) ∧ (s.fold IntOp.minsi i f).toInt ≤ i.toInt
      ∧ (s.fold IntOp.minsi i f = i ∨ ∃ x ∈ s, s.fold IntOp.minsi i f = f x) := by
  induction s using Finset.induction_on with
  | empty => simp
  | insert y s hy ih =>
    obtain ⟨h1, h2, h3⟩ := ih
    rw [Finset.fold_insert hy]
    unfold IntOp.minsi
    by_cases h : (f y).slt (s.fold IntOp.minsi i f)
    · have h' : (f y).toInt < (s.fold IntOp.minsi i f).toInt := by simpa [BitVec.slt] using h
      unfold IntOp.minsi at h h' h1 h2 h3
      rw [if_pos h]
      refine ⟨fun x hx => ?_, by omega, Or.inr ⟨y, Finset.mem_insert_self _ _, rfl⟩⟩
      rcases Finset.mem_insert.mp hx with rfl | hx
      · exact le_rfl
      · have := h1 x hx; omega
    · have h' : (s.fold IntOp.minsi i f).toInt ≤ (f y).toInt := by
        have : ¬ (f y).toInt < (s.fold IntOp.minsi i f).toInt := by simpa [BitVec.slt] using h
        omega
      unfold IntOp.minsi at h h' h1 h2 h3
      rw [if_neg h]
      refine ⟨fun x hx => ?_, h2, ?_⟩
      · rcases Finset.mem_insert.mp hx with rfl | hx
        · exact h'
        · exact h1 x hx
      · rcases h3 with h3 | ⟨x, hx, h3⟩
        · exact Or.inl h3
        · exact Or.inr ⟨x, Finset.mem_insert_of_mem hx, h3⟩

theorem toInt_small (n : ℕ) (h : n < 2 ^ 31) : (BitVec.ofNat 32 n).toInt = n := by
  rw [BitVec.toInt_ofNat']
  simp [Int.bmod]
  omega

theorem least_eq (a : Fin 64 → EReal) :
    (Finset.univ : Finset (Fin 64)).fold IntOp.minsi 2147483647#32 (fun x => if a x = a (top a) then BitVec.ofNat 32 x.val else 64#32)
      = BitVec.ofNat 32 (top a).val := by
  obtain ⟨h1, -, h3⟩ := fold_minimum Finset.univ 2147483647#32 (fun x => if a x = a (top a) then BitVec.ofNat 32 x.val else 64#32)
  generalize Finset.univ.fold IntOp.minsi 2147483647#32 (fun x => if a x = a (top a) then BitVec.ofNat 32 x.val else 64#32) = r at h1 h3
  have ht := h1 (top a) (Finset.mem_univ _)
  simp only [if_true] at ht
  have hl := (top a).isLt
  rw [toInt_small _ (by omega)] at ht
  rcases h3 with h3 | ⟨x, -, h3⟩
  · rw [h3] at ht
    have : (2147483647#32 : BitVec 32).toInt = 2147483647 := by decide
    omega
  · by_cases he : a x = a (top a)
    · simp only [if_pos he] at h3
      have hx := x.isLt
      rw [h3, toInt_small _ (by omega)] at ht
      rcases lt_trichotomy x (top a) with h | h | h
      · exact absurd he (ne_top a x h)
      · rw [h3, h]
      · have : (top a).val < x.val := h
        omega
    · simp only [if_neg he] at h3
      rw [h3] at ht
      have : (64#32 : BitVec 32).toInt = 64 := by decide
      omega

/-- The weights of pixel `p`. -/
def colOf (a : FVec Ideal S64x12544 .f32) (p : Fin 12544) : Fin 64 → EReal := fun e => a (ix2 e p)

theorem bot_bits : (FloatOps.ofBits .f32 0xFF800000#32 : Ideal .f32) = (⊥ : EReal) := by
  show Ideal.ofBits .f32 0xFF800000#32 = ⊥
  simp [Ideal.ofBits, Ideal.ieee]

theorem lift_eq (p : Fin 12544) (e : Fin 64) : (reduces_S64x12544_S12544 : S64x12544.Reduces [0] S12544).lift (ix1 p) e = ix2 e p := by
  rw [eq_ix2 ((reduces_S64x12544_S12544 : S64x12544.Reduces [0] S12544).lift (ix1 p) e)]; rfl

theorem rMax_apply (a : FVec Ideal S64x12544 .f32) (p : Fin 12544) : rMax a (ix1 p) = colOf a p (top (colOf a p)) := by
  unfold rMax
  refine (Ideal.multiReduction_maximumf_single a _ _ _ _ (ix1 p)).trans ?_
  refine Eq.trans ?_ (maximum_eq (colOf a p))
  exact congrArg₂ (fun b f => (Finset.univ : Finset (Fin 64)).fold max b f) bot_bits (funext fun e => congrArg a (lift_eq p e))

theorem rBcast_apply {α : Type} (v : S12544.Idx → α) (e : Fin 64) (p : Fin 12544) : rBcast v (ix2 e p) = v (ix1 p) := by
  unfold rBcast
  rw [broadcastTo_apply _ _ _ (ix2 0 p) (by intro a; fin_cases a <;> rfl),
    shapeCast_apply _ _ _ (ix1 p) (by rw [rowMajor_val1, rowMajor_val2 _ 12544 rfl]; simp)]

theorem rowNo_apply (e : Fin 64) (p : Fin 12544) : rowNo (ix2 e p) = BitVec.ofNat 32 e.val := iota_single_apply _ _ _ _ _ _

theorem tie_apply (a : FVec Ideal S64x12544 .f32) (p : Fin 12544) (e : Fin 64) :
    select (cmpf .oeq a (rBcast (rMax a))) rowNo (broadcast S64x12544 64#32) (ix2 e p)
      = if colOf a p e = colOf a p (top (colOf a p)) then BitVec.ofNat 32 e.val else 64#32 := by
  show Scalar.select (FloatOps.cmpf .oeq (a (ix2 e p)) (rBcast (rMax a) (ix2 e p))) (rowNo (ix2 e p)) 64#32 = _
  rw [rBcast_apply, rMax_apply, rowNo_apply, Ideal.cmpf_def]
  show Scalar.select (Ideal.cmp .oeq (colOf a p e) _) _ _ = _
  by_cases h : colOf a p e = colOf a p (top (colOf a p)) <;> simp [h, Ideal.cmp, Scalar.select]

theorem rArg_apply (a : FVec Ideal S64x12544 .f32) (p : Fin 12544) : rArg a (ix1 p) = BitVec.ofNat 32 (top (colOf a p)).val := by
  unfold rArg
  refine (multiReductionI_eq_fold _ _ _ _ _ (ix1 p)).trans ((Shape.Reduces.fold_filter_drop_single _ _ _ _ (ix1 p)).trans ?_)
  refine Eq.trans ?_ (least_eq (colOf a p))
  exact congrArg (fun f => (Finset.univ : Finset (Fin 64)).fold IntOp.minsi 2147483647#32 f)
    (funext fun e => (congrArg _ (lift_eq p e)).trans (tie_apply a p e))

theorem ofNat_inj64 (x y : Fin 64) : (BitVec.ofNat 32 x.val == BitVec.ofNat 32 y.val) = decide (x = y) := by
  have hx := x.isLt; have hy := y.isLt
  rw [Bool.eq_iff_iff]
  simp only [beq_iff_eq, decide_eq_true_eq]
  constructor
  · intro h
    have := congrArg BitVec.toNat h
    simp only [BitVec.toNat_ofNat] at this
    exact Fin.ext (by omega)
  · rintro rfl; rfl

theorem rHit_apply (a : FVec Ideal S64x12544 .f32) (e : Fin 64) (p : Fin 12544) :
    rHit a (ix2 e p) = BitVec.ofBool (decide (e = top (colOf a p))) := by
  show IntOp.cmpi .eq (rowNo (ix2 e p)) (rBcast (rArg a) (ix2 e p)) = _
  rw [rBcast_apply, rArg_apply, rowNo_apply, ← ofNat_inj64]; rfl

theorem rNext_apply (a : FVec Ideal S64x12544 .f32) (p : Fin 12544) :
    colOf (rNext a) p = fun e => if e = top (colOf a p) then ⊥ else colOf a p e := by
  funext e
  show Scalar.select (rHit a (ix2 e p)) (FloatOps.ofBits .f32 0xFF800000#32) (a (ix2 e p)) = _
  rw [rHit_apply, bot_bits]
  by_cases h : e = top (colOf a p) <;> simp [h, Scalar.select, colOf]

theorem rAt_apply (a : FVec Ideal S64x12544 .f32) (p : Fin 12544) : ∀ k, colOf (rAt a k) p = left (colOf a p) k
  | 0 => rfl
  | k + 1 => by
    show colOf (rNext (rAt a k)) p = _
    rw [rNext_apply, rAt_apply a p k]; rfl

theorem kept_apply (acc a : FVec Ideal S64x12544 .f32) (p : Fin 12544) (e : Fin 64) :
    select (rHit a) acc (broadcast S64x12544 (Scalar.ofBits .f32 0x00000000#32)) (ix2 e p)
      = (if e = top (colOf a p) then acc (ix2 e p) else 0 : EReal) := by
  show Scalar.select (rHit a (ix2 e p)) (acc (ix2 e p)) (FloatOps.ofBits .f32 0x00000000#32 : Ideal .f32) = _
  rw [rHit_apply]
  by_cases h : e = top (colOf a p)
  · simp [h, Scalar.select]
  · rw [if_neg h]
    simp only [h, decide_false, Scalar.select]
    exact Ideal.ofBits_zero_f32

theorem rSel_apply (acc a : FVec Ideal S64x12544 .f32) (p : Fin 12544) :
    rSel acc a (ix1 p) = (acc (ix2 (top (colOf a p)) p) * colOf a p (top (colOf a p)) : EReal) := by
  refine (congrArg₂ (· * · : EReal → EReal → EReal) (Ideal.multiReduction_add_single _ _ _ _ _ (ix1 p)) (rMax_apply a p)).trans ?_
  refine congrArg (· * (colOf a p (top (colOf a p))) : EReal → EReal) ?_
  refine (Finset.sum_congr rfl fun e _ => (congrArg _ (lift_eq p e)).trans (kept_apply acc a p e)).trans ?_
  exact (Finset.sum_ite_eq' Finset.univ (top (colOf a p)) fun e => (acc (ix2 e p) : EReal)).trans (if_pos (Finset.mem_univ _))

end Cert.KernelIdeal.Hand

end
end
-- ==== Proof.Conv.lean ====
/-
  Hand-written. The convolution: nine taps of a zero-padded image, and the kernel's accumulator read as it.
-/
module

public import proofs.«01_k».proof.Proof.Column
public import Idealize.ShloMosaic.Lib.Pointwise.Contract
public import Idealize.ShloMosaic.Lib.Routing.Words
public import Idealize.ShloMosaic.Lib.VecWindow
public import Idealize.ShloMosaic.Lib.Affine

@[expose] public section

set_option maxRecDepth 16384

noncomputable section

namespace Cert.KernelIdeal.Hand

open Cert.KernelIdeal Cert.KernelIdeal.Gen
open Idealize.ShloMosaic Idealize.ShloMosaic.TcCoe
open Idealize.SL.Sem

/-! ## The mathematics -/

/-- One tap of the convolution: nothing where it falls outside the image. -/
def tapS (X : Fin 2 → Fin 384 → Fin 224 → Fin 224 → EReal) (W : Fin 64 → Fin 384 → Fin 3 → Fin 3 → EReal)
    (b : Fin 2) (e : Fin 64) (y x : ℕ) (dy dx : Fin 3) : EReal :=
  if 1 ≤ y + dy.val ∧ y + dy.val ≤ 224 ∧ 1 ≤ x + dx.val ∧ x + dx.val ≤ 224 then
    ∑ k : Fin 384, W e k dy dx * X b k (Fin.ofNat 224 (y + dy.val - 1)) (Fin.ofNat 224 (x + dx.val - 1))
  else 0

/-- The convolution at a pixel: the nine taps, summed in order. -/
def convS (X : Fin 2 → Fin 384 → Fin 224 → Fin 224 → EReal) (W : Fin 64 → Fin 384 → Fin 3 → Fin 3 → EReal)
    (b : Fin 2) (e : Fin 64) (y x : ℕ) : EReal :=
  tapS X W b e y x 0 0 + tapS X W b e y x 0 1 + tapS X W b e y x 0 2 + tapS X W b e y x 1 0 + tapS X W b e y x 1 1
    + tapS X W b e y x 1 2 + tapS X W b e y x 2 0 + tapS X W b e y x 2 1 + tapS X W b e y x 2 2

/-! ## The masks -/

/-- Zero where the mask is set. -/
def zeroAt (m : BitVec 1) (v : EReal) : EReal := if m = 1#1 then 0 else v

/-- A masked tap. -/
def masked (m : IVec S1x12544 1) (v : FVec Ideal S64x12544 .f32) : FVec Ideal S64x12544 .f32 :=
  select (broadcastTo S64x12544 (shapeCast S1x12544 m shapeCasts_S1x12544_S1x12544) broadcasts_S1x12544_S64x12544)
    (broadcast S64x12544 (Scalar.ofBits .f32 0x00000000#32)) v

theorem masked_apply (m : IVec S1x12544 1) (v : FVec Ideal S64x12544 .f32) (e : Fin 64) (p : Fin 12544) :
    masked m v (ix2 e p) = zeroAt (m (ix2 0 p)) (v (ix2 e p)) := by
  show Scalar.select (broadcastTo S64x12544 _ _ (ix2 e p)) (FloatOps.ofBits .f32 0x00000000#32 : Ideal .f32) (v (ix2 e p)) = _
  rw [broadcastTo_apply _ _ _ (ix2 0 p) (by intro a; fin_cases a <;> rfl), shapeCast_self]
  unfold zeroAt Scalar.select
  by_cases h : m (ix2 0 p) = 1#1
  · rw [if_pos h]; exact (if_pos h).trans Ideal.ofBits_zero_f32
  · rw [if_neg h]; exact if_neg h

/-- The mask of a column of the image. -/
def atCol (n : BitVec 32) : IVec S1x12544 1 := cmpi .eq k0_pay5 (broadcast S1x12544 n)

theorem pay8_eq (t0 : Vec Ideal S64x12544 .f32) : k0_pay8 t0 = masked (atCol 0#32) t0 := rfl

theorem pay10_eq (a b : BitVec 32) (v t1 t2 t3 t4 t5 : FVec Ideal S64x12544 .f32) :
    k0_pay10 k0_pay5 (k0_pay6 a b) v tailRun.sl.cst_47 (k0_pay9 a b) t1 t2 t3 t4 t5
      = addf (addf (addf (addf (addf (masked (k0_pay6 a b) v) (masked (k0_pay6 a b) t1)) (masked (k0_pay6 a b) (masked (atCol 223#32) t2)))
          (masked (atCol 0#32) t3)) t4) (masked (atCol 223#32) t5) := rfl

theorem pay11_eq (m : IVec S1x12544 1) (s t6 t7 t8 : FVec Ideal S64x12544 .f32) :
    k0_pay11 k0_pay5 m s t6 t7 t8
      = addf (addf (addf s (masked m (masked (atCol 0#32) t6))) (masked m t7)) (masked m (masked (atCol 223#32) t8)) := rfl

theorem colNo_apply (p : Fin 12544) : k0_pay5 (ix2 0 p) = BitVec.ofNat 32 (p.val % 224) := by
  have hp := p.isLt
  have hr : remsi (iota .tc S1x12544 32 [1] iota_S1x12544_d1_w32) (broadcast S1x12544 224#32) (ix2 0 p) = BitVec.ofNat 32 (p.val % 224) := by
    show IntOp.remsi .vector (iota .tc S1x12544 32 [1] iota_S1x12544_d1_w32 (ix2 0 p)) 224#32 = _
    rw [iota_single_apply]
    exact Idealize.ShloMosaic.Routing.remsi_word .vector (by show p.val < 2 ^ 31; omega) (by decide) (by decide)
  have hs : IntOp.cmpi .slt (BitVec.ofNat 32 (p.val % 224)) 0#32 = 0#1 := by
    have : (BitVec.ofNat 32 (p.val % 224)).toInt = (p.val % 224 : ℕ) := toInt_small _ (by omega)
    unfold IntOp.cmpi
    simp only [BitVec.slt, this]
    rw [decide_eq_false (by simp; omega)]; rfl
  show Scalar.select (IntOp.andi (IntOp.xori (IntOp.cmpi .slt (remsi (iota .tc S1x12544 32 [1] iota_S1x12544_d1_w32) (broadcast S1x12544 224#32) (ix2 0 p)) 0#32) 0#1)
      (IntOp.cmpi .ne (remsi (iota .tc S1x12544 32 [1] iota_S1x12544_d1_w32) (broadcast S1x12544 224#32) (ix2 0 p)) 0#32))
    (IntOp.addi (remsi (iota .tc S1x12544 32 [1] iota_S1x12544_d1_w32) (broadcast S1x12544 224#32) (ix2 0 p)) 224#32)
    (remsi (iota .tc S1x12544 32 [1] iota_S1x12544_d1_w32) (broadcast S1x12544 224#32) (ix2 0 p)) = _
  rw [hr, hs]
  unfold Scalar.select
  rw [if_neg]
  generalize IntOp.cmpi .ne (BitVec.ofNat 32 (p.val % 224)) 0#32 = u
  revert u; decide

theorem word_eq {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

theorem atCol_apply (n : ℕ) (hn : n < 224) (p : Fin 12544) : atCol (BitVec.ofNat 32 n) (ix2 0 p) = 1#1 ↔ p.val % 224 = n := by
  show IntOp.cmpi .eq (k0_pay5 (ix2 0 p)) (BitVec.ofNat 32 n) = 1#1 ↔ _
  rw [colNo_apply, IntOp.cmpi_eq, word_eq (by omega) (by omega)]

/-- The row of blocks a point is in, as the kernel computes it. -/
theorem rowNo_word (t : ℕ) (ht : t < 8) : Scalar.remsi (BitVec.ofNat 32 t) 4#32 = BitVec.ofNat 32 (t % 4) :=
  Idealize.ShloMosaic.Routing.remsi_word .scalar (by omega) (by decide) (by decide)

theorem atTop_apply (t : ℕ) (ht : t < 8) (p : Fin 12544) :
    k0_pay6 4#32 (Scalar.remsi (BitVec.ofNat 32 t) 4#32) (ix2 0 p) = 1#1 ↔ p.val < 224 ∧ t % 4 = 0 := by
  have hp := p.isLt
  rw [rowNo_word t ht]
  generalize hj : t % 4 = j
  have hj4 : j < 4 := by omega
  have h1 : IntOp.cmpi .slt (iota .tc S1x12544 32 [1] iota_S1x12544_d1_w32 (ix2 0 p)) 224#32 = 1#1 ↔ p.val < 224 := by
    rw [iota_single_apply, IntOp.cmpi_slt]
    show (BitVec.ofNat 32 p.val).toInt < _ ↔ _
    rw [toInt_small _ (by omega), show (224#32 : BitVec 32).toInt = 224 by decide]; omega
  show IntOp.andi (IntOp.cmpi .slt (iota .tc S1x12544 32 [1] iota_S1x12544_d1_w32 (ix2 0 p)) 224#32)
    (Scalar.cmpi .eq (Scalar.select (Scalar.andi (Scalar.xori (Scalar.cmpi .slt (BitVec.ofNat 32 j) 0#32) (Scalar.cmpi .slt 4#32 0#32)) (Scalar.cmpi .ne (BitVec.ofNat 32 j) 0#32)) (Scalar.addi (BitVec.ofNat 32 j) 4#32) (BitVec.ofNat 32 j)) 0#32) = 1#1 ↔ _
  rw [IntOp.andi_eq_one, h1]
  refine and_congr Iff.rfl ?_
  clear hj h1
  revert j
  decide

theorem atBottom_apply (t : ℕ) (ht : t < 8) (p : Fin 12544) :
    k0_pay7 4#32 (Scalar.remsi (BitVec.ofNat 32 t) 4#32) (ix2 0 p) = 1#1 ↔ 12320 ≤ p.val ∧ t % 4 = 3 := by
  have hp := p.isLt
  rw [rowNo_word t ht]
  generalize hj : t % 4 = j
  have hj4 : j < 4 := by omega
  have h1 : IntOp.cmpi .sge (iota .tc S1x12544 32 [1] iota_S1x12544_d1_w32 (ix2 0 p)) 12320#32 = 1#1 ↔ 12320 ≤ p.val := by
    rw [iota_single_apply, IntOp.cmpi_sge]
    show (12320#32 : BitVec 32).toInt ≤ (BitVec.ofNat 32 p.val).toInt ↔ _
    rw [toInt_small 12320 (by decide), toInt_small p.val (by omega)]; omega
  show IntOp.andi (IntOp.cmpi .sge (iota .tc S1x12544 32 [1] iota_S1x12544_d1_w32 (ix2 0 p)) 12320#32)
    (Scalar.cmpi .eq (Scalar.select (Scalar.andi (Scalar.xori (Scalar.cmpi .slt (BitVec.ofNat 32 j) 0#32) (Scalar.cmpi .slt 4#32 0#32)) (Scalar.cmpi .ne (BitVec.ofNat 32 j) 0#32)) (Scalar.addi (BitVec.ofNat 32 j) 4#32) (BitVec.ofNat 32 j)) 3#32) = 1#1 ↔ _
  rw [IntOp.andi_eq_one, h1]
  refine and_congr Iff.rfl ?_
  clear hj h1
  revert j
  decide

/-! ## The taps -/

theorem ofNat_val {n k : ℕ} [NeZero n] (h : k < n) : (Fin.ofNat n k).val = k := Nat.mod_eq_of_lt h

/-- A load of any rectangle of a buffer that one store filled. -/
theorem readCov_one {S : Shape} {e : EltTy} {κ : Kind} {sp : Space} (v : View sig κ sp S e) {off : Fin S.rank → ℕ} (h : off = fun _ => 0)
    (inb : ∀ a, off a + S.size a ≤ S.size a) (w : S.Idx → Elt Ideal e) (r : Rect S) :
    v.readCov [(⟨Rect.unit off S.size inb, w⟩ : View.Piece (Elt Ideal) S e)] r.toLoadRect = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

/-- A window of the tap products, read back. -/
theorem window_apply (w : FVec Ideal S576x13056 .f32) (r0 off : ℕ) (inb : ∀ a, ![r0, off] a + S64x12544.size a ≤ S576x13056.size a)
    (e : Fin 64) (p : Fin 12544) :
    pM.view.readCov [(⟨Rect.unit ![0, 0] S576x13056.size inb_S576x13056_S576x13056_0_0, w⟩ : View.Piece (Elt Ideal) S576x13056 .f32)]
        (Rect.unit (s := S576x13056) ![r0, off] S64x12544.size inb).toLoadRect (ix2 e p)
      = w (ix2 (Fin.ofNat 576 (r0 + e.val)) (Fin.ofNat 13056 (off + p.val))) := by
  have h0 : (![0, 0] : Fin 2 → ℕ) = fun _ => 0 := by funext a; fin_cases a <;> rfl
  have i0 := inb 0
  have i1 := inb 1
  have he := e.isLt
  have hp := p.isLt
  have i0' : r0 + 64 ≤ 576 := i0
  have i1' : off + 12544 ≤ 13056 := i1
  rw [readCov_one _ h0, View.ld_unit]
  have hr : (Fin.ofNat 576 (r0 + e.val)).val = r0 + e.val := ofNat_val (by omega)
  have hq : (Fin.ofNat 13056 (off + p.val)).val = off + p.val := ofNat_val (by omega)
  generalize Fin.ofNat 576 (r0 + e.val) = r at hr ⊢
  generalize Fin.ofNat 13056 (off + p.val) = q at hq ⊢
  refine extractStridedSlice_apply _ _ _ _ _ fun a => ?_
  fin_cases a
  · exact hr
  · exact hq

/-- The products of the kernel's matrix with the slab. -/
theorem products_apply (v59 : Vec Ideal S1x384x13056 .f32) (v62 : Vec Ideal S576x384 .bf16) (r : Fin 576) (q : Fin 13056) :
    k0_pay4 v59 v62 (ix2 r q) = (∑ k : Fin 384, (v62 (ix2 r k) * v59 (ix3 0 k q) : EReal) : EReal) := by
  show shapeCast S576x13056 (matmul dot_S576x384_S384x13056_S576x13056_1_0_0_1_n_n none (shapeCast S576x384 v62 shapeCasts_S576x384_S576x384 : FVec Ideal S576x384 .bf16)
    (truncf .bf16 (shapeCast S384x13056 v59 shapeCasts_S1x384x13056_S384x13056 : FVec Ideal S384x13056 .f32) bitsLt_bf16_f32) (constant S576x13056 .f32 0x00000000#32)) shapeCasts_S576x13056_S576x13056 (ix2 r q) = _
  rw [shapeCast_self, shapeCast_self]
  refine (Ideal.matmul_constant_zero_apply _ none _ _ _).trans ((DotDims.sum_contr₁ _ (a := 1) rfl (K := 384) rfl _).trans ?_)
  refine Finset.sum_congr rfl fun k _ => congrArg₂ (· * · : EReal → EReal → EReal) (congrArg v62 ?_) ?_
  · rw [eq_ix2 (DotDims.lhsIdx _ _ _)]; rfl
  · show shapeCast S384x13056 (v59 : S1x384x13056.Idx → EReal) shapeCasts_S1x384x13056_S384x13056 _ = _
    refine shapeCast_apply _ _ _ _ ?_
    rw [rowMajor_val3 _ (384 * 13056) 13056 rfl rfl, rowMajor_val2 _ 13056 rfl]
    show 0 * (384 * 13056) + k.val * 13056 + q.val = k.val * 13056 + q.val
    omega

/-! ## The accumulator -/

section
variable (X : Fin 2 → Fin 384 → Fin 224 → Fin 224 → EReal) (W : Fin 64 → Fin 384 → Fin 3 → Fin 3 → EReal)
  (t : ℕ) (ht : t < 8) (fx : S2x384x50176.Idx → EReal) (v59 : Vec Ideal S1x384x13056 .f32) (hs : SlabOK (F := Ideal) t fx v59)
  (hX : ∀ b k (y x : Fin 224), fx (ix3 b k (Fin.ofNat 50176 (y.val * 224 + x.val))) = X b k y x)
  (v62 : Vec Ideal S576x384 .bf16)
  (hW : ∀ e k (dy dx : Fin 3), v62 (ix2 (Fin.ofNat 576 (64 * (3 * dy.val + dx.val) + e.val)) k) = W e k dy dx)
include ht hs hX hW

/-- One window of the tap products, masked where the tap falls outside the image. -/
theorem tap_eq (e : Fin 64) (p : Fin 12544) (dy dx : Fin 3) (r0 off : ℕ) (hr : r0 = 64 * (3 * dy.val + dx.val)) (ho : off = 224 * dy.val + dx.val + 31)
    (inb : ∀ a, ![r0, off] a + S64x12544.size a ≤ S576x13056.size a)
    (v : FVec Ideal S64x12544 .f32)
    (hv : v = pM.view.readCov [(⟨Rect.unit ![0, 0] S576x13056.size inb_S576x13056_S576x13056_0_0, k0_pay4 v59 v62⟩ : View.Piece (Elt Ideal) S576x13056 .f32)]
        (Rect.unit (s := S576x13056) ![r0, off] S64x12544.size inb).toLoadRect)
    (a b : BitVec 1)
    (hab : (a = 1#1 ∨ b = 1#1) ↔ ¬ (1 ≤ (t % 4) * 56 + p.val / 224 + dy.val ∧ (t % 4) * 56 + p.val / 224 + dy.val ≤ 224
      ∧ 1 ≤ p.val % 224 + dx.val ∧ p.val % 224 + dx.val ≤ 224)) :
    zeroAt a (zeroAt b (v (ix2 e p))) = tapS X W ⟨t / 4, by omega⟩ e ((t % 4) * 56 + p.val / 224) (p.val % 224) dy dx := by
  have he := e.isLt
  have hp := p.isLt
  have hdy := dy.isLt
  have hdx := dx.isLt
  have hz : zeroAt a (zeroAt b (v (ix2 e p))) = if a = 1#1 ∨ b = 1#1 then 0 else v (ix2 e p) := by
    unfold zeroAt
    by_cases h1 : a = 1#1 <;> by_cases h2 : b = 1#1 <;> simp [h1, h2]
  rw [hz]
  unfold tapS
  by_cases hin : 1 ≤ (t % 4) * 56 + p.val / 224 + dy.val ∧ (t % 4) * 56 + p.val / 224 + dy.val ≤ 224
      ∧ 1 ≤ p.val % 224 + dx.val ∧ p.val % 224 + dx.val ≤ 224
  · rw [if_pos hin, if_neg (by rw [hab]; exact not_not_intro hin), hv, window_apply, products_apply]
    subst hr
    refine Finset.sum_congr rfl fun k _ => ?_
    rw [hW, ← hX]
    congr 1
    refine hs _ _ rfl rfl ?_
    show (Fin.ofNat 50176 ((Fin.ofNat 224 ((t % 4) * 56 + p.val / 224 + dy.val - 1)).val * 224 + (Fin.ofNat 224 (p.val % 224 + dx.val - 1)).val)).val + 256
      = (t % 4) * 12544 + (Fin.ofNat 13056 (off + p.val)).val
    rw [ofNat_val (n := 224) (k := (t % 4) * 56 + p.val / 224 + dy.val - 1) (by omega), ofNat_val (n := 224) (k := p.val % 224 + dx.val - 1) (by omega),
      ofNat_val (n := 50176) (by omega), ofNat_val (n := 13056) (by omega)]
    omega
  · rw [if_neg hin, if_pos (hab.mpr hin)]
end

theorem zeroAt_zero (v : EReal) : zeroAt 0#1 v = v := if_neg (by decide)

/-- The kernel's accumulator is the convolution. -/
theorem acc_apply (X : Fin 2 → Fin 384 → Fin 224 → Fin 224 → EReal) (W : Fin 64 → Fin 384 → Fin 3 → Fin 3 → EReal)
    (c : Dev nD) (i : grid0.Coords) (fx : S2x384x50176.Idx → EReal) (v59 : Vec Ideal S1x384x13056 .f32) (ht : (i 0).val < 8)
    (hs : SlabOK (F := Ideal) (i 0).val fx v59)
    (hX : ∀ b k (y x : Fin 224), fx (ix3 b k (Fin.ofNat 50176 (y.val * 224 + x.val))) = X b k y x)
    (arg3 : Memref sig .tc .vmem S576x384 .bf16) (f3 : Buf (Elt Ideal) (arg3.view.loc (c : Thread nD τ)))
    (hW : ∀ e k (dy dx : Fin 3), (arg3.view.read (Elt Ideal) f3 : Vec Ideal S576x384 .bf16) (ix2 (Fin.ofNat 576 (64 * (3 * dy.val + dx.val) + e.val)) k) = W e k dy dx)
    (e : Fin 64) (p : Fin 12544) :
    tailRun.sl.r_5 c i arg3 v59 f3 (ix2 e p)
      = convS X W ⟨(i 0).val / 4, by omega⟩ e (((i 0).val % 4) * 56 + p.val / 224) (p.val % 224) := by
  have hp := p.isLt
  have hW' : ∀ e k (dy dx : Fin 3), (View.readAt (Elt Ideal) arg3.view (Rect.unit ![0, 0] S576x384.size inb_S576x384_S576x384_0_0).toLoadRect f3 : Vec Ideal S576x384 .bf16)
      (ix2 (Fin.ofNat 576 (64 * (3 * dy.val + dx.val) + e.val)) k) = W e k dy dx := by
    intro e k dy dx
    rw [← hW]
    exact congrFun (View.readAt_full _ _ _) _
  have T := tap_eq X W (i 0).val ht fx v59 hs hX _ hW' e p
  have hc0 := atCol_apply 0 (by omega) p
  have hc1 := atCol_apply 223 (by omega) p
  have ht0 := atTop_apply (i 0).val ht p
  have hb0 := atBottom_apply (i 0).val ht p
  have e0 := T 0 0 0 31 rfl rfl inb_S576x13056_S64x12544_0_31 (tailRun.sl.v105 c arg3 v59 f3) rfl (k0_pay6 4#32 (Scalar.remsi (BitVec.ofNat 32 (i 0).val) 4#32) (ix2 0 p)) (atCol 0#32 (ix2 0 p)) (by rw [ht0, hc0]; simp; omega)
  have e1 := T 0 1 64 32 rfl rfl inb_S576x13056_S64x12544_64_32 (tailRun.sl.v116 c arg3 v59 f3) rfl (k0_pay6 4#32 (Scalar.remsi (BitVec.ofNat 32 (i 0).val) 4#32) (ix2 0 p)) 0#1 (by rw [ht0]; simp; omega)
  have e2 := T 0 2 128 33 rfl rfl inb_S576x13056_S64x12544_128_33 (tailRun.sl.v122 c arg3 v59 f3) rfl (k0_pay6 4#32 (Scalar.remsi (BitVec.ofNat 32 (i 0).val) 4#32) (ix2 0 p)) (atCol 223#32 (ix2 0 p)) (by rw [ht0, hc1]; simp; omega)
  have e3 := T 1 0 192 255 rfl rfl inb_S576x13056_S64x12544_192_255 (tailRun.sl.v134 c arg3 v59 f3) rfl 0#1 (atCol 0#32 (ix2 0 p)) (by rw [hc0]; simp; omega)
  have e4 := T 1 1 256 256 rfl rfl inb_S576x13056_S64x12544_256_256 (tailRun.sl.v142 c arg3 v59 f3) rfl 0#1 0#1 (by simp; omega)
  have e5 := T 1 2 320 257 rfl rfl inb_S576x13056_S64x12544_320_257 (tailRun.sl.v144 c arg3 v59 f3) rfl 0#1 (atCol 223#32 (ix2 0 p)) (by rw [hc1]; simp; omega)
  have e6 := T 2 0 384 479 rfl rfl inb_S576x13056_S64x12544_384_479 (tailRun.sl.v152 c arg3 v59 f3) rfl (k0_pay7 4#32 (Scalar.remsi (BitVec.ofNat 32 (i 0).val) 4#32) (ix2 0 p)) (atCol 0#32 (ix2 0 p)) (by rw [hb0, hc0]; simp; omega)
  have e7 := T 2 1 448 480 rfl rfl inb_S576x13056_S64x12544_448_480 (tailRun.sl.v164 c arg3 v59 f3) rfl (k0_pay7 4#32 (Scalar.remsi (BitVec.ofNat 32 (i 0).val) 4#32) (ix2 0 p)) 0#1 (by rw [hb0]; simp; omega)
  have e8 := T 2 2 512 481 rfl rfl inb_S576x13056_S64x12544_512_481 (tailRun.sl.v170 c arg3 v59 f3) rfl (k0_pay7 4#32 (Scalar.remsi (BitVec.ofNat 32 (i 0).val) 4#32) (ix2 0 p)) (atCol 223#32 (ix2 0 p)) (by rw [hb0, hc1]; simp; omega)
  rw [zeroAt_zero] at e1 e3 e4 e5 e7
  rw [zeroAt_zero] at e4
  unfold convS
  rw [← e0, ← e1, ← e2, ← e3, ← e4, ← e5, ← e6, ← e7, ← e8]
  unfold tailRun.sl.r_5 tailRun.sl.r_4 tailRun.sl.r_3 tailRun.sl.r_2 tailRun.sl.r_1 tailRun.sl.r tailRun.sl.v70
  rw [pay8_eq, pay10_eq, pay11_eq]
  simp only [← masked_apply]
  rfl

end Cert.KernelIdeal.Hand

end
end
-- ==== Proof.Point.lean ====
/-
  Hand-written. What the body leaves in the result blocks of a grid point, in terms of the program's arguments.
-/
module

public import proofs.«01_k».proof.Proof.Conv
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The results, as functions of the arguments -/

/-- The weights of a pixel, by expert. -/
def weightsAt (R : S2x64x224x224.Idx → EReal) (b : Fin 2) (y x : ℕ) : Fin 64 → EReal :=
  fun e => R (ix4 b e (Fin.ofNat 224 y) (Fin.ofNat 224 x))

def imageOf (A : S2x384x224x224.Idx → EReal) : Fin 2 → Fin 384 → Fin 224 → Fin 224 → EReal := fun b k y x => A (ix4 b k y x)
def filterOf (A : S64x384x3x3.Idx → EReal) : Fin 64 → Fin 384 → Fin 3 → Fin 3 → EReal := fun e k dy dx => A (ix4 e k dy dx)

/-- The `k`-th expert of a pixel. -/
def expertAt (R : S2x64x224x224.Idx → EReal) (b : Fin 2) (k : ℕ) (y x : ℕ) : Fin 64 := pick (weightsAt R b y x) k

/-- The `k`-th weight of a pixel, as the rounds leave it. -/
def mapAt (R : S2x64x224x224.Idx → EReal) (b : Fin 2) (k : ℕ) (y x : ℕ) : EReal :=
  left (weightsAt R b y x) k (expertAt R b k y x)

/-- The convolution of the `k`-th expert of a pixel, scaled by the weight. -/
def selectedAt (A : S2x384x224x224.Idx → EReal) (R : S2x64x224x224.Idx → EReal) (K : S64x384x3x3.Idx → EReal)
    (b : Fin 2) (k : ℕ) (y x : ℕ) : EReal :=
  convS (imageOf A) (filterOf K) b (expertAt R b k y x) y x * mapAt R b k y x

/-! ## What the region finds -/

variable (m : (ℓ : Loc nD τ sig) → Buf (Elt Ideal) ℓ)

abbrev argX (c : Dev nD) : S2x384x224x224.Idx → EReal := m ((c : Thread nD τ).loc main_arg0)
abbrev argR (c : Dev nD) : S2x64x224x224.Idx → EReal := m ((c : Thread nD τ).loc main_arg1)
abbrev argW (c : Dev nD) : S64x384x3x3.Idx → EReal := m ((c : Thread nD τ).loc main_arg2)

theorem V_image (c : Dev nD) (b : Fin 2) (k : Fin 384) (y x : Fin 224) :
    (V m c main_v0 : S2x384x50176.Idx → EReal) (ix3 b k (Fin.ofNat 50176 (y.val * 224 + x.val))) = imageOf (argX m c) b k y x := by
  have hy := y.isLt
  have hx := x.isLt
  entry_read
  refine shapeCast_apply _ _ _ (ix4 b k y x) ?_
  refine (rowMajor_val4 _ _ _ _ rfl rfl rfl).trans (Eq.trans ?_ (rowMajor_val3 (d := ![2, 384, 50176]) _ _ _ rfl rfl).symm)
  have e : (Fin.ofNat 50176 (y.val * 224 + x.val)).val = y.val * 224 + x.val := ofNat_val (by omega)
  show b.val * 19267584 + k.val * 50176 + y.val * 224 + x.val = b.val * 19267584 + k.val * 50176 + (Fin.ofNat 50176 (y.val * 224 + x.val)).val
  omega

theorem V_weights (c : Dev nD) (b : Fin 2) (e : Fin 64) (q : Fin 50176) :
    (V m c main_v1 : S2x64x50176.Idx → EReal) (ix3 b e q) = weightsAt (argR m c) b (q.val / 224) (q.val % 224) e := by
  have hq := q.isLt
  entry_read
  refine shapeCast_apply _ _ _ (ix4 b e (Fin.ofNat 224 (q.val / 224)) (Fin.ofNat 224 (q.val % 224))) ?_
  refine (rowMajor_val4 _ _ _ _ rfl rfl rfl).trans (Eq.trans ?_ (rowMajor_val3 (d := ![2, 64, 50176]) _ _ _ rfl rfl).symm)
  have e1 : (Fin.ofNat 224 (q.val / 224)).val = q.val / 224 := ofNat_val (by omega)
  have e2 : (Fin.ofNat 224 (q.val % 224)).val = q.val % 224 := ofNat_val (by omega)
  show b.val * 3211264 + e.val * 50176 + (Fin.ofNat 224 (q.val / 224)).val * 224 + (Fin.ofNat 224 (q.val % 224)).val = b.val * 3211264 + e.val * 50176 + q.val
  omega

theorem V_filter (c : Dev nD) (e : Fin 64) (k : Fin 384) (dy dx : Fin 3) :
    (V m c main_v4 : S576x384.Idx → EReal) (ix2 (Fin.ofNat 576 (64 * (3 * dy.val + dx.val) + e.val)) k) = filterOf (argW m c) e k dy dx := by
  show StableHlo.after (List.flatten [hostOps0]) (fun b => m (c, b)) (Proc.devRef .tc main_v4) _ = _
  simp only [hostOps0, List.flatten_cons, List.flatten_nil, List.append_nil]
  after_results
  have he := e.isLt
  have hdy := dy.isLt
  have hdx := dx.isLt
  refine (shapeCast_apply _ _ _ (ix4 dy dx e k) ?_).trans (transpose_apply _ _ _ _ (ix4 e k dy dx) ?_)
  · refine (rowMajor_val4 _ _ _ _ rfl rfl rfl).trans (Eq.trans ?_ (rowMajor_val2 (d := ![576, 384]) _ _ rfl).symm)
    have e1 : (Fin.ofNat 576 (64 * (3 * dy.val + dx.val) + e.val)).val = 64 * (3 * dy.val + dx.val) + e.val := ofNat_val (by omega)
    show dy.val * 73728 + dx.val * 24576 + e.val * 384 + k.val = (Fin.ofNat 576 (64 * (3 * dy.val + dx.val) + e.val)).val * 384 + k.val
    omega
  · intro a; fin_cases a <;> rfl

theorem iblk_weights (c : Dev nD) (t : Fin cfg0.N) (e : Fin 64) (p : Fin 12544) :
    (iblk m c 0 t : S1x64x12544.Idx → EReal) (ix3 0 e p)
      = weightsAt (argR m c) (Fin.ofNat 2 (t.val / 4)) ((t.val % 4) * 56 + p.val / 224) (p.val % 224) e := by
  have ht := t.isLt
  have hp := p.isLt
  have ew : ∀ t : Fin cfg0.N, win0_0.index t = ![t.val / 4, 0, t.val % 4] := (by decide +kernel : ∀ t : Fin grid0.N, _)
  blk_simp [iblk]
  have hq : (t.val % 4) * 12544 + p.val < 50176 := by omega
  rw [show (win0_0.blk t).view.emb (ix3 0 e p) = ix3 (Fin.ofNat 2 (t.val / 4)) e (⟨(t.val % 4) * 12544 + p.val, hq⟩ : Fin 50176) from by
    have e2 : (Fin.ofNat 2 (t.val / 4)).val = t.val / 4 := ofNat_val (by have : t.val < 8 := ht; omega)
    blk_ext [ew, e2]]
  refine (V_weights m c _ e _).trans ?_
  congr 1 <;> (show _ = _; simp only []; omega)

theorem iblk_filter (c : Dev nD) (t : Fin cfg0.N) : (iblk m c 1 t : S576x384.Idx → EReal) = V m c main_v4 := by
  funext y
  have ew : ∀ t : Fin cfg0.N, win0_1.index t = ![0, 0] := (by decide +kernel : ∀ t : Fin grid0.N, _)
  blk_simp [iblk]
  rw [show (win0_1.blk t).view.emb y = y from by blk_ext [ew]]

/-! ## The rows of a result block -/

theorem asRow_apply {α : Type} (v : S12544.Idx → α) (x : S1x1x12544.Idx) : asRow v x = v (ix1 (x 2)) := by
  refine shapeCast_apply _ _ _ _ ?_
  refine (rowMajor_val1 _).trans (Eq.trans ?_ (rowMajor_val3 (d := ![1, 1, 12544]) _ _ _ rfl rfl).symm)
  have h0 : (x 0).val < 1 := (x 0).isLt
  have h1 : (x 1).val < 1 := (x 1).isLt
  show (x 2).val = (x 0).val * 12544 + (x 1).val * 12544 + (x 2).val
  omega

/-- One stored row agrees with the whole block. -/
theorem row_piece {e : EltTy} (row : ℕ → Vec Ideal S12544 e) (k : ℕ) (inb : ∀ a, ![0, k, 0] a + S1x1x12544.size a ≤ S1x8x12544.size a)
    (x : S1x1x12544.Idx) :
    asRow (row k) x = (fun j : S1x8x12544.Idx => row (j 1).val (ix1 (j 2))) ((Rect.unit (s := S1x8x12544) ![0, k, 0] S1x1x12544.size inb).emb x) := by
  rw [asRow_apply]
  have h1 : (x 1).val < 1 := (x 1).isLt
  have e1 : (((Rect.unit (s := S1x8x12544) ![0, k, 0] S1x1x12544.size inb).emb x) 1).val = k := by
    show k + 1 * (x 1).val = k
    omega
  have e2 : ((Rect.unit (s := S1x8x12544) ![0, k, 0] S1x1x12544.size inb).emb x) 2 = x 2 := Fin.ext (by
    show 0 + 1 * (x 2).val = (x 2).val
    omega)
  show row k (ix1 (x 2)) = row _ (ix1 _)
  rw [e1, e2]

theorem read_rows {κ : Kind} {sp : Space} {e : EltTy} (v : View sig κ sp S1x8x12544 e) (f : v.ty.Contents (Elt Ideal)) (row : ℕ → Vec Ideal S12544 e) :
    v.read (Elt Ideal) (v.writes (Elt Ideal) f (rowPieces row)) = fun j => row (j 1).val (ix1 (j 2)) := by
  funext y
  refine View.read_writes_apply_of_pieces (f := f) (v := v) (fun j : S1x8x12544.Idx => row (j 1).val (ix1 (j 2))) (rowPieces row) ?_ y
    (View.cover_of_tiledL (s := S1x8x12544) _ ![1, 1, 12544] (by sl_kernel_rfl) y)
  intro p hp
  simp only [rowPieces, List.mem_cons, List.mem_nil_iff, or_false] at hp
  rcases hp with rfl | rfl | rfl | rfl | rfl | rfl | rfl | rfl
  · exact row_piece row 7 inb_S1x8x12544_S1x1x12544_0_7_0
  · exact row_piece row 6 inb_S1x8x12544_S1x1x12544_0_6_0
  · exact row_piece row 5 inb_S1x8x12544_S1x1x12544_0_5_0
  · exact row_piece row 4 inb_S1x8x12544_S1x1x12544_0_4_0
  · exact row_piece row 3 inb_S1x8x12544_S1x1x12544_0_3_0
  · exact row_piece row 2 inb_S1x8x12544_S1x1x12544_0_2_0
  · exact row_piece row 1 inb_S1x8x12544_S1x1x12544_0_1_0
  · exact row_piece row 0 inb_S1x8x12544_S1x1x12544_0_0_0

/-! ## The body at a point -/

/-- What the body leaves in the three result blocks of point `t`. -/
def out4 (c : Dev nD) (t : Fin cfg0.N) : Vec Ideal S1x8x12544 .f32 := fun j =>
  selectedAt (argX m c) (argR m c) (argW m c) (Fin.ofNat 2 (t.val / 4)) (j 1).val ((t.val % 4) * 56 + (j 2).val / 224) ((j 2).val % 224)
def out5 (c : Dev nD) (t : Fin cfg0.N) : Vec Ideal S1x8x12544 .f32 := fun j =>
  mapAt (argR m c) (Fin.ofNat 2 (t.val / 4)) (j 1).val ((t.val % 4) * 56 + (j 2).val / 224) ((j 2).val % 224)
def out6 (c : Dev nD) (t : Fin cfg0.N) : Vec Ideal S1x8x12544 .i32 := fun j =>
  BitVec.ofNat 32 (expertAt (argR m c) (Fin.ofNat 2 (t.val / 4)) (j 1).val ((t.val % 4) * 56 + (j 2).val / 224) ((j 2).val % 224)).val

theorem col_weights (c : Dev nD) (t : Fin cfg0.N) (f2 : Buf (Elt Ideal) ((ms0 t).view.loc (c : Thread nD τ)))
    (e2 : (ms0 t).view.read (Elt Ideal) f2 = iblk m c 0 t) (p : Fin 12544) :
    colOf (rw0 c (ms0 t) f2) p = weightsAt (argR m c) (Fin.ofNat 2 (t.val / 4)) ((t.val % 4) * 56 + p.val / 224) (p.val % 224) := by
  funext e
  rw [← iblk_weights, ← e2]
  unfold colOf rw0 k0_pay12
  rw [show View.readAt (Elt Ideal) (ms0 t).view (Rect.unit ![0, 0, 0] S1x64x12544.size inb_S1x64x12544_S1x64x12544_0_0_0).toLoadRect f2
    = (ms0 t).view.read (Elt Ideal) f2 from View.readAt_full _ _ _]
  refine shapeCast_apply (s := S1x64x12544) _ _ _ (ix3 0 e p) ?_
  refine (rowMajor_val3 _ _ _ rfl rfl).trans (Eq.trans ?_ (rowMajor_val2 (d := ![64, 12544]) _ _ rfl).symm)
  show 0 * 802816 + e.val * 12544 + p.val = e.val * 12544 + p.val
  omega

theorem row_map (c : Dev nD) (t : Fin cfg0.N) (f2 : Buf (Elt Ideal) ((ms0 t).view.loc (c : Thread nD τ)))
    (e2 : (ms0 t).view.read (Elt Ideal) f2 = iblk m c 0 t) (k : ℕ) (p : Fin 12544) :
    rMax (rAt (rw0 c (ms0 t) f2) k) (ix1 p)
      = mapAt (argR m c) (Fin.ofNat 2 (t.val / 4)) k ((t.val % 4) * 56 + p.val / 224) (p.val % 224) := by
  rw [rMax_apply, rAt_apply, col_weights m c t f2 e2]
  rfl

theorem row_expert (c : Dev nD) (t : Fin cfg0.N) (f2 : Buf (Elt Ideal) ((ms0 t).view.loc (c : Thread nD τ)))
    (e2 : (ms0 t).view.read (Elt Ideal) f2 = iblk m c 0 t) (k : ℕ) (p : Fin 12544) :
    rArg (rAt (rw0 c (ms0 t) f2) k) (ix1 p)
      = BitVec.ofNat 32 (expertAt (argR m c) (Fin.ofNat 2 (t.val / 4)) k ((t.val % 4) * 56 + p.val / 224) (p.val % 224)).val := by
  rw [rArg_apply, rAt_apply, col_weights m c t f2 e2]
  rfl

theorem row_selected (c : Dev nD) (t : Fin cfg0.N) (v59 : Vec Ideal S1x384x13056 .f32) (hs : SlabOK (F := Ideal) t.val (V m c main_v0) v59)
    (f2 : Buf (Elt Ideal) ((ms0 t).view.loc (c : Thread nD τ))) (e2 : (ms0 t).view.read (Elt Ideal) f2 = iblk m c 0 t)
    (f3 : Buf (Elt Ideal) ((ms1 t).view.loc (c : Thread nD τ))) (e3 : (ms1 t).view.read (Elt Ideal) f3 = iblk m c 1 t) (k : ℕ) (p : Fin 12544) :
    rSel (tailRun.sl.r_5 c (grid0.coords t) (ms1 t) v59 f3) (rAt (rw0 c (ms0 t) f2) k) (ix1 p)
      = selectedAt (argX m c) (argR m c) (argW m c) (Fin.ofNat 2 (t.val / 4)) k ((t.val % 4) * 56 + p.val / 224) (p.val % 224) := by
  have ht : t.val < 8 := t.isLt
  have hc := coord_eq t
  rw [rSel_apply, rAt_apply, col_weights m c t f2 e2]
  rw [acc_apply (imageOf (argX m c)) (filterOf (argW m c)) c (grid0.coords t) (V m c main_v0) v59 (by rw [hc]; exact ht) (by rw [hc]; exact hs)
    (V_image m c) (ms1 t) f3 (fun e k dy dx => by rw [e3, iblk_filter]; exact V_filter m c e k dy dx)]
  simp only [hc]
  rw [show (⟨t.val / 4, by omega⟩ : Fin 2) = Fin.ofNat 2 (t.val / 4) from Fin.ext (ofNat_val (n := 2) (k := t.val / 4) (by omega)).symm]
  rfl

local notation "𝕄" => MT nD τ sig Unit (Elt Ideal) ℕ (Pipeline.UD sig nD τ) ℕ

theorem owns_rows (c : Dev nD) {e : EltTy} (M : Memref sig .tc .vmem S1x8x12544 e) (L : List (View.Piece (Elt Ideal) S1x8x12544 e)) (row : ℕ → Vec Ideal S12544 e)
    (hL : L = rowPieces row) (o : Vec Ideal S1x8x12544 e) (h : ∀ j : S1x8x12544.Idx, row (j 1).val (ix1 (j 2)) = o j) :
    (iprop(∃ f, M.view.loc (c : Thread nD τ) ↦[M.view.set]{fullShare} M.view.writes (Elt Ideal) f L) : sProp 𝕄)
      ⊢ owns (c : Thread nD τ) M fullShare o := by
  subst hL
  unfold owns
  iintro ⟨%f, H⟩
  iexists _; isplitr
  swap; · iexact H
  ipureintro
  rw [read_rows]
  funext j
  exact h j

theorem forget_before {A B C D : sProp 𝕄} {α₂ β₂ α₃ β₃ α₄ β₄ : Type} (g₂ : α₂ → β₂) (g₃ : α₃ → β₃) (g₄ : α₄ → β₄)
    (P₂ : β₂ → sProp 𝕄) (P₃ : β₃ → sProp 𝕄) (P₄ : β₄ → sProp 𝕄) :
    iprop(A ∗ B ∗ C ∗ D ∗ (∃ d, P₂ (g₂ d)) ∗ (∃ d, P₃ (g₃ d)) ∗ (∃ d, P₄ (g₄ d)))
      ⊢ iprop(A ∗ B ∗ C ∗ D ∗ (∃ X, P₂ X) ∗ (∃ X, P₃ X) ∗ (∃ X, P₄ X)) := by
  iintro ⟨HA, HB, HC, HD, ⟨%d2, H2⟩, ⟨%d3, H3⟩, ⟨%d4, H4⟩⟩
  isplitl [HA]; · iexact HA
  isplitl [HB]; · iexact HB
  isplitl [HC]; · iexact HC
  isplitl [HD]; · iexact HD
  isplitl [H2]; · iexists (g₂ d2); iexact H2
  isplitl [H3]; · iexists (g₃ d3); iexact H3
  iexists (g₄ d4); iexact H4

theorem body_exact (c : Dev nD) : BodyObligation (dats m (out4 m) (out5 m) (out6 m) 0 c) (defs₀ (F := Ideal)) Variants.none () Set.univ := fun t => by
  rw [bigSep_W0, bigSep_W0, defs₀_row]
  refine triple_restated (sound_body m (out4 m) (out5 m) (out6 m) c t (owns (c : Thread nD τ) (ms2 t) fullShare (out4 m c t))
    (owns (c : Thread nD τ) (ms3 t) fullShare (out5 m c t)) (owns (c : Thread nD τ) (ms4 t) fullShare (out6 m c t)) fun v59 f2 f3 hs e2 e3 =>
      ⟨owns_rows c _ _ _ (pieces4 _ _ _ _ _ _ _ _ _ _ _ _ _ _ _) _ fun j => row_selected m c t v59 hs f2 e2 f3 e3 _ _,
       owns_rows c _ _ _ (pieces5 _ _ _ _ _ _ _ _ _ _ _ _ _ _ _) _ fun j => row_map m c t f2 e2 _ _,
       owns_rows c _ _ _ (pieces6 _ _ _ _ _ _ _ _ _ _ _ _ _ _ _) _ fun j => row_expert m c t f2 e2 _ _⟩) rfl ?_ fun _ => .rfl
  exact forget_before ((dats m (out4 m) (out5 m) (out6 m) 0 c).before 2 t) ((dats m (out4 m) (out5 m) (out6 m) 0 c).before 3 t)
    ((dats m (out4 m) (out5 m) (out6 m) 0 c).before 4 t) (fun X => owns (c : Thread nD τ) (ms2 t) fullShare X)
    (fun X => owns (c : Thread nD τ) (ms3 t) fullShare X) (fun X => owns (c : Thread nD τ) (ms4 t) fullShare X)

end Cert.KernelIdeal.Hand

end
end
-- ==== Proof.Result.lean ====
/-
  Hand-written. What the program leaves in its results, in terms of its arguments.
-/
module

public import proofs.«01_k».proof.Proof.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

abbrev datsI : (p : Fin 1) → (c : Dev nD) → Dat τ (Elt Ideal) Unit ℕ (Pipeline.UD sig nD τ) ℕ cfg0 c := dats m (out4 m) (out5 m) (out6 m)

/-! ## The result arrays, pixels in one row -/

def flat4 (c : Dev nD) : S2x8x50176.Idx → EReal := fun q => selectedAt (argX m c) (argR m c) (argW m c) (q 0) (q 1).val ((q 2).val / 224) ((q 2).val % 224)
def flat5 (c : Dev nD) : S2x8x50176.Idx → EReal := fun q => mapAt (argR m c) (q 0) (q 1).val ((q 2).val / 224) ((q 2).val % 224)
def flat6 (c : Dev nD) : S2x8x50176.Idx → BitVec 32 := fun q => BitVec.ofNat 32 (expertAt (argR m c) (q 0) (q 1).val ((q 2).val / 224) ((q 2).val % 224)).val

/-- Where a block's pixel lies in the array. -/
theorem flat_of_block {α : Type} (g : Fin 2 → ℕ → ℕ → ℕ → α) (t : ℕ) (ht : t < 8) (j : S1x8x12544.Idx) (q : S2x8x50176.Idx)
    (h0 : (q 0).val = t / 4 + (j 0).val) (h1 : (q 1).val = (j 1).val) (h2 : (q 2).val = (t % 4) * 12544 + (j 2).val) :
    g (Fin.ofNat 2 (t / 4)) (j 1).val ((t % 4) * 56 + (j 2).val / 224) ((j 2).val % 224) = g (q 0) (q 1).val ((q 2).val / 224) ((q 2).val % 224) := by
  have hj0 : (j 0).val < 1 := (j 0).isLt
  have hj2 : (j 2).val < 12544 := (j 2).isLt
  have e0 : Fin.ofNat 2 (t / 4) = q 0 := Fin.ext ((ofNat_val (n := 2) (k := t / 4) (by omega)).trans (by omega))
  rw [e0, h1, h2]
  congr 1 <;> omega

theorem array4 (c : Dev nD) : (datsI m 0 c).arrAt 2 cfg0.N = flat4 m c := by
  refine (datsI m 0 c).arrAt_eq_of_covers 2 (flat4 m c) (by decide +kernel) fun t hf y => ?_
  have ew : ∀ t : Fin cfg0.N, win0_2.index t = ![t.val / 4, 0, t.val % 4] := (by decide +kernel : ∀ t : Fin grid0.N, _)
  blk_simp
  rw [after_2]
  exact flat_of_block (selectedAt (argX m c) (argR m c) (argW m c)) t.val t.isLt y _ (by blk_simp [ew]) (by blk_simp [ew]) (by blk_simp [ew])

theorem array5 (c : Dev nD) : (datsI m 0 c).arrAt 3 cfg0.N = flat5 m c := by
  refine (datsI m 0 c).arrAt_eq_of_covers 3 (flat5 m c) (by decide +kernel) fun t hf y => ?_
  have ew : ∀ t : Fin cfg0.N, win0_3.index t = ![t.val / 4, 0, t.val % 4] := (by decide +kernel : ∀ t : Fin grid0.N, _)
  blk_simp
  rw [after_3]
  exact flat_of_block (mapAt (argR m c)) t.val t.isLt y _ (by blk_simp [ew]) (by blk_simp [ew]) (by blk_simp [ew])

theorem array6 (c : Dev nD) : (datsI m 0 c).arrAt 4 cfg0.N = flat6 m c := by
  refine (datsI m 0 c).arrAt_eq_of_covers 4 (flat6 m c) (by decide +kernel) fun t hf y => ?_
  have ew : ∀ t : Fin cfg0.N, win0_4.index t = ![t.val / 4, 0, t.val % 4] := (by decide +kernel : ∀ t : Fin grid0.N, _)
  blk_simp
  rw [after_4]
  exact flat_of_block (fun b k y x => BitVec.ofNat 32 (expertAt (argR m c) b k y x).val) t.val t.isLt y _ (by blk_simp [ew]) (by blk_simp [ew]) (by blk_simp [ew])

/-! ## The three results -/

def result4 (c : Dev nD) : S2x8x224x224.Idx → EReal := fun q => selectedAt (argX m c) (argR m c) (argW m c) (q 0) (q 1).val (q 2).val (q 3).val
def result5 (c : Dev nD) : S2x8x224x224.Idx → EReal := fun q => mapAt (argR m c) (q 0) (q 1).val (q 2).val (q 3).val
def result6 (c : Dev nD) : S2x8x224x224.Idx → BitVec 32 := fun q => BitVec.ofNat 32 (expertAt (argR m c) (q 0) (q 1).val (q 2).val (q 3).val).val

/-- The last reshape, of an array that depends on its pixel's row and column. -/
theorem unflatten {α : Type} (g : Fin 2 → ℕ → ℕ → ℕ → α) (v : S2x8x50176.Idx → α) (hv : v = fun q => g (q 0) (q 1).val ((q 2).val / 224) ((q 2).val % 224))
    (h : S2x8x50176.ShapeCasts S2x8x224x224) :
    shapeCast S2x8x224x224 v h = fun q => g (q 0) (q 1).val (q 2).val (q 3).val := by
  subst hv
  funext q
  have h2 : (q 2).val < 224 := (q 2).isLt
  have h3 : (q 3).val < 224 := (q 3).isLt
  refine (shapeCast_apply _ _ _ (ix3 (q 0) (q 1) (⟨(q 2).val * 224 + (q 3).val, by omega⟩ : Fin 50176)) ?_).trans ?_
  · refine (rowMajor_val3 _ _ _ rfl rfl).trans (Eq.trans ?_ (rowMajor_val4 (d := ![2, 8, 224, 224]) _ _ _ _ rfl rfl rfl).symm)
    show (q 0).val * 401408 + (q 1).val * 50176 + ((q 2).val * 224 + (q 3).val) = (q 0).val * 401408 + (q 1).val * 50176 + (q 2).val * 224 + (q 3).val
    omega
  · show g (q 0) (q 1).val (((q 2).val * 224 + (q 3).val) / 224) (((q 2).val * 224 + (q 3).val) % 224) = _
    rw [show ((q 2).val * 224 + (q 3).val) / 224 = (q 2).val by omega, show ((q 2).val * 224 + (q 3).val) % 224 = (q 3).val by omega]

theorem tail4 (c : Dev nD) : Pipeline.afterTail₀ cfgs (datsI m) 0 (V0 m) [hostOps1] c main_v6 = result4 m c := by
  have h : Pipeline.withArrays (cfgs 0).spec c (V0 m c) (fun w => (datsI m 0 c).arrAt w (cfgs 0).N) (Proc.devRef .tc main_v5_0) = flat4 m c :=
    (Pipeline.withArrays_arr (cfgs 0).spec launch0.win.arr_inj c _ _ 2).trans (array4 m c)
  unfold Pipeline.afterTail₀
  simp only [hostOps1, List.flatten_cons, List.flatten_nil, List.append_nil]
  after_results
  exact (congrArg (fun v : S2x8x50176.Idx → _ => shapeCast S2x8x224x224 v shapeCasts_S2x8x50176_S2x8x224x224) h).trans
    (unflatten (selectedAt (argX m c) (argR m c) (argW m c)) _ rfl _)

theorem tail5 (c : Dev nD) : Pipeline.afterTail₀ cfgs (datsI m) 0 (V0 m) [hostOps1] c main_v7 = result5 m c := by
  have h : Pipeline.withArrays (cfgs 0).spec c (V0 m c) (fun w => (datsI m 0 c).arrAt w (cfgs 0).N) (Proc.devRef .tc main_v5_1) = flat5 m c :=
    (Pipeline.withArrays_arr (cfgs 0).spec launch0.win.arr_inj c _ _ 3).trans (array5 m c)
  unfold Pipeline.afterTail₀
  simp only [hostOps1, List.flatten_cons, List.flatten_nil, List.append_nil]
  after_results
  exact (congrArg (fun v : S2x8x50176.Idx → _ => shapeCast S2x8x224x224 v shapeCasts_S2x8x50176_S2x8x224x224) h).trans
    (unflatten (mapAt (argR m c)) _ rfl _)

theorem tail6 (c : Dev nD) : Pipeline.afterTail₀ cfgs (datsI m) 0 (V0 m) [hostOps1] c main_v8 = result6 m c := by
  have h : Pipeline.withArrays (cfgs 0).spec c (V0 m c) (fun w => (datsI m 0 c).arrAt w (cfgs 0).N) (Proc.devRef .tc main_v5_2) = flat6 m c :=
    (Pipeline.withArrays_arr (cfgs 0).spec launch0.win.arr_inj c _ _ 4).trans (array6 m c)
  unfold Pipeline.afterTail₀
  simp only [hostOps1, List.flatten_cons, List.flatten_nil, List.append_nil]
  after_results
  exact (congrArg (fun v : S2x8x50176.Idx → _ => shapeCast S2x8x224x224 v shapeCasts_S2x8x50176_S2x8x224x224) h).trans
    (unflatten (fun b k y x => BitVec.ofNat 32 (expertAt (argR m c) b k y x).val) _ rfl _)

set_option backward.isDefEq.respectTransparency.types false in
theorem run_exact : θ_run defs (onTc (τ := τ) (main (F := Ideal))) (s₀ m ρ) (fun r =>
    Pipeline.FramePost cfgs (datsI m) 0 (Pipeline.afterTail₀ cfgs (datsI m) 0 (V0 m) [hostOps1]) r ∧ r.2.sem = fun _ => 0) :=
  Pipeline.θ_run_frame_dma_around (Q' := _) cfgs (datsI m) (0 : Fin 1) launch0 osem defs₀ Variants.none ownSemFacts H0 H0_sub m ρ main
    (hbody := fun c => (body_exact m c).loose) (hshare := fun c => (datsI m 0 c).share_full fun _ => rfl)
    (howed := fun _ _ => rfl) (V₀ := V0 m) (opss := [hostOps1]) (hsub := sfx_subD) (hfresh := sfx_fresh) (hkeep := sfx_keeps)
    (hmain := hmainD m) (hA := A_eq m _ _ _) (hin := fun c => phi_in c (V m)) (hout := fun c => phi_out c (V m))

/-- The run: the three results as said. -/
theorem run_results : θ_run defs (onTc (τ := τ) (main (F := Ideal))) ⟨m, fun _ => 0, ρ⟩ (fun r => ∀ c : Dev nD,
      r.2.mem ((c : Thread nD τ).loc main_v6) = result4 m c
      ∧ r.2.mem ((c : Thread nD τ).loc main_v7) = result5 m c
      ∧ r.2.mem ((c : Thread nD τ).loc main_v8) = result6 m c) :=
  (θ_run defs _ _).mono (fun _ h c =>
    ⟨((h.1 c).2 main_v6 (Pipeline.mem_restRefs_of main_v6 (by decide) (by decide))).trans (tail4 m c),
     ((h.1 c).2 main_v7 (Pipeline.mem_restRefs_of main_v7 (by decide) (by decide))).trans (tail5 m c),
     ((h.1 c).2 main_v8 (Pipeline.mem_restRefs_of main_v8 (by decide) (by decide))).trans (tail6 m c)⟩) (run_exact m ρ)

end Cert.KernelIdeal.Hand

end
end
-- ==== Proof.Reference.lean ====
/-
  Hand-written. What the reference's operations compute: its convolution, its top eight, its gather.
-/
module

public import proofs.«01_k».proof.Proof.Gen.ReferenceIdeal.Run
public import proofs.«01_k».proof.Proof.Point
public import Idealize.ShloMosaic.Lib.KernelVsHost
public import Idealize.ShloMosaic.Lib.ReduceAll

@[expose] public section

set_option maxRecDepth 16384

noncomputable section

namespace Cert.ReferenceIdeal.Hand

open Cert.ReferenceIdeal Cert.ReferenceIdeal.Facts₀
open Idealize.ShloMosaic Idealize.ShloMosaic.TcCoe
open Cert.KernelIdeal.Hand (convS tapS imageOf filterOf weightsAt expertAt mapAt selectedAt pick left rounds ofNat_val top)

/-! ## The convolution -/

/-- The padded image at a tap's offset: the image inside, zero outside. -/
theorem pad_apply_eq (A : FVec Ideal S2x384x224x224 .f32) (hp : S2x384x224x224.Pads (![0, 0, 1, 1] : Fin 4 → ℕ) ![0, 0, 1, 1] ![0, 0, 0, 0] S2x384x226x226)
    (hu : 0 < S_.numel) (b : Fin 2) (k : Fin 384) (y x : Fin 226) :
    pad S2x384x226x226 ![0, 0, 1, 1] ![0, 0, 1, 1] ![0, 0, 0, 0] A (sitofp .f32 (constantI S_ 32 0#32)) hp hu (ix4 b k y x)
      = if 1 ≤ y.val ∧ y.val ≤ 224 ∧ 1 ≤ x.val ∧ x.val ≤ 224 then imageOf A b k (Fin.ofNat 224 (y.val - 1)) (Fin.ofNat 224 (x.val - 1)) else 0 := by
  by_cases h : 1 ≤ y.val ∧ y.val ≤ 224 ∧ 1 ≤ x.val ∧ x.val ≤ 224
  · rw [if_pos h]
    have e1 : (Fin.ofNat 224 (y.val - 1)).val = y.val - 1 := ofNat_val (by omega)
    have e2 : (Fin.ofNat 224 (x.val - 1)).val = x.val - 1 := ofNat_val (by omega)
    refine pad_apply_of_inside _ _ _ _ _ _ _ _ (ix4 b k (Fin.ofNat 224 (y.val - 1)) (Fin.ofNat 224 (x.val - 1))) ?_
    intro a
    fin_cases a
    · show b.val = 0 + b.val * 1; omega
    · show k.val = 0 + k.val * 1; omega
    · show y.val = 1 + (Fin.ofNat 224 (y.val - 1)).val * 1; omega
    · show x.val = 1 + (Fin.ofNat 224 (x.val - 1)).val * 1; omega
  · rw [if_neg h]
    have hz : (sitofp .f32 (constantI S_ 32 0#32) : FVec Ideal S_ .f32) (Shape.Idx.first hu) = (0 : EReal) := by
      show (((0#32 : BitVec 32).toInt : ℝ) : EReal) = 0
      simp
    by_cases hy : 1 ≤ y.val ∧ y.val ≤ 224
    · refine (pad_apply_of_not_inside _ _ _ _ _ _ _ _ (3 : Fin 4) ?_).trans hz
      show ¬ (1 ≤ x.val ∧ (x.val - 1) % 1 = 0 ∧ (x.val - 1) / 1 < 224)
      omega
    · refine (pad_apply_of_not_inside _ _ _ _ _ _ _ _ (2 : Fin 4) ?_).trans hz
      show ¬ (1 ≤ y.val ∧ (y.val - 1) % 1 = 0 ∧ (y.val - 1) / 1 < 224)
      omega

/-- One tap of the reference's convolution. -/
theorem tap_apply [Facts] (A : FVec Ideal S2x384x224x224 .f32) (K : FVec Ideal S64x384x3x3 .f32) (dy dx : Fin 3) (oy ox : ℕ) (hoy : oy = dy.val) (hox : ox = dx.val)
    (hp : S2x384x224x224.Pads (![0, 0, 1, 1] : Fin 4 → ℕ) ![0, 0, 1, 1] ![0, 0, 0, 0] S2x384x226x226) (hu : 0 < S_.numel)
    (hs : S2x384x226x226.Slices ![0, 0, oy, ox] S2x384x224x224) (hk : S64x384x3x3.Slices ![0, 0, oy, ox] S64x384x1x1)
    (hc : S64x384x1x1.ShapeCasts S64x384) (ht : S2x224x224x64.Transposes [0, 3, 1, 2] S2x64x224x224)
    (b : Fin 2) (e : Fin 64) (y x : Fin 224) :
    transpose S2x64x224x224 [0, 3, 1, 2] (Host.dotGeneral dot_S2x384x224x224_S64x384_S2x224x224x64_1_1_023_0_n_n none
      (extractStridedSlice S2x384x224x224 ![0, 0, oy, ox] (pad S2x384x226x226 ![0, 0, 1, 1] ![0, 0, 1, 1] ![0, 0, 0, 0] A (sitofp .f32 (constantI S_ 32 0#32)) hp hu) hs)
      (shapeCast S64x384 (extractStridedSlice S64x384x1x1 ![0, 0, oy, ox] K hk) hc)) ht (ix4 b e y x)
      = tapS (imageOf A) (filterOf K) b e y.val x.val dy dx := by
  subst hoy hox
  have hy := y.isLt
  have hx := x.isLt
  have hdy := dy.isLt
  have hdx := dx.isLt
  refine (transpose_apply _ _ _ _ (ix4 b y x e) (by intro a; fin_cases a <;> rfl)).trans ?_
  refine (Ideal.dotGeneral_apply _ none _ _ _ _).trans ((DotDims.sum_contr₁ _ (a := 1) rfl (K := 384) rfl _).trans ?_)
  have hl : ∀ k : Fin 384, extractStridedSlice S2x384x224x224 ![0, 0, dy.val, dx.val] (pad S2x384x226x226 ![0, 0, 1, 1] ![0, 0, 1, 1] ![0, 0, 0, 0] A (sitofp .f32 (constantI S_ 32 0#32)) hp hu) hs (ix4 b k y x)
      = if 1 ≤ y.val + dy.val ∧ y.val + dy.val ≤ 224 ∧ 1 ≤ x.val + dx.val ∧ x.val + dx.val ≤ 224
        then imageOf A b k (Fin.ofNat 224 (y.val + dy.val - 1)) (Fin.ofNat 224 (x.val + dx.val - 1)) else 0 := fun k => by
    refine (extractStridedSlice_apply _ _ _ _ (ix4 b k (⟨y.val + dy.val, by omega⟩ : Fin 226) (⟨x.val + dx.val, by omega⟩ : Fin 226)) ?_).trans (pad_apply_eq A hp hu _ _ _ _)
    intro a
    fin_cases a
    · show b.val = 0 + b.val; omega
    · show k.val = 0 + k.val; omega
    · show y.val + dy.val = dy.val + y.val; omega
    · show x.val + dx.val = dx.val + x.val; omega
  have hr : ∀ k : Fin 384, shapeCast S64x384 (extractStridedSlice S64x384x1x1 ![0, 0, dy.val, dx.val] K hk) hc (ix2 e k) = filterOf K e k dy dx := fun k => by
    refine (shapeCast_apply _ _ _ (ix4 e k (0 : Fin 1) (0 : Fin 1)) ?_).trans (extractStridedSlice_apply _ _ _ _ (ix4 e k dy dx) ?_)
    · rw [rowMajor_val4 _ 384 1 1 rfl rfl rfl, rowMajor_val2 _ 384 rfl]
      show e.val * 384 + k.val * 1 + 0 * 1 + 0 = e.val * 384 + k.val
      omega
    · intro a
      fin_cases a
      · show e.val = 0 + e.val; omega
      · show k.val = 0 + k.val; omega
      · rfl
      · rfl
  unfold tapS
  split
  · next h =>
    refine Finset.sum_congr rfl fun k _ => (congrArg₂ (· * · : EReal → EReal → EReal) ((congrArg _ ?_).trans ((hl k).trans (if_pos h))) ((congrArg _ ?_).trans (hr k))).trans (mul_comm _ _)
    · rw [eq_ix4 (DotDims.lhsIdx _ _ _)]; rfl
    · rw [eq_ix2 (DotDims.rhsIdx _ _ _)]; rfl
  · next h =>
    refine Finset.sum_eq_zero fun k _ => (congrArg₂ (· * · : EReal → EReal → EReal) ((congrArg _ ?_).trans ((hl k).trans (if_neg h))) ((congrArg _ ?_).trans (hr k))).trans (zero_mul _)
    · rw [eq_ix4 (DotDims.lhsIdx _ _ _)]; rfl
    · rw [eq_ix2 (DotDims.rhsIdx _ _ _)]; rfl

/-! ## The top eight -/

/-- The positions the descending sort of a pixel's weights begins with are the picked experts. -/
theorem topK_pos (R : FVec Ideal S2x64x224x224 .f32) (hR : ∀ i, (⊥ : EReal) < R i) (ht : S2x64x224x224.Transposes [0, 2, 3, 1] S2x224x224x64)
    (b : Fin 2) (y x : Fin 224) (k : Fin 8) (j : S2x224x224x64.Idx) (hj : j = ix4 b y x (k.castLE (by decide : 8 ≤ 64))) :
    sortedFrom (fun q q' : Fin 64 => FloatOps.cmpfTotal (F := Ideal) (φ := .f32) .gt (transpose S2x224x224x64 [0, 2, 3, 1] R ht (Shape.Idx.along j (3 : Fin 4) q))
      (transpose S2x224x224x64 [0, 2, 3, 1] R ht (Shape.Idx.along j (3 : Fin 4) q')) == 1#1) (k.castLE (by decide : 8 ≤ 64))
      = expertAt R b k.val y.val x.val := by
  subst hj
  have e1 : Fin.ofNat 224 y.val = y := Fin.ext (ofNat_val y.isLt)
  have e2 : Fin.ofNat 224 x.val = x := Fin.ext (ofNat_val x.isLt)
  have hw : ∀ q : Fin 64, transpose S2x224x224x64 [0, 2, 3, 1] R ht (Shape.Idx.along (ix4 b y x (k.castLE (by decide : 8 ≤ 64)) : S2x224x224x64.Idx) (3 : Fin 4) q)
      = weightsAt R b y.val x.val q := fun q => by
    unfold weightsAt
    rw [e1, e2]
    refine transpose_apply _ _ _ _ (ix4 b q y x) ?_
    intro a; fin_cases a <;> rfl
  have hA : ∀ q, ⊥ < left (weightsAt R b y.val x.val) 0 q := fun q => hR _
  refine Eq.trans ?_ ((rounds (weightsAt R b y.val x.val)).sorted hA (by decide : 8 ≤ 64) k)
  congr 1
  funext q q'
  rw [hw, hw, Ideal.cmpfTotal_def]
  show (BitVec.ofBool (decide (weightsAt R b y.val x.val q' < weightsAt R b y.val x.val q)) == 1#1) = decide (weightsAt R b y.val x.val q' < weightsAt R b y.val x.val q)
  cases decide (weightsAt R b y.val x.val q' < weightsAt R b y.val x.val q) <;> rfl

/-- The position of the descending sort, as a slice of the sorted image reads it. -/
theorem slice_at {α : Type} (v : S2x224x224x64.Idx → α) (hs : S2x224x224x64.Slices (fun _ => 0) S2x224x224x8) (b : Fin 2) (y x : Fin 224) (k : Fin 8) :
    extractStridedSlice S2x224x224x8 (fun _ => 0) v hs (ix4 b y x k) = v (ix4 b y x (k.castLE (by decide : 8 ≤ 64))) := by
  refine extractStridedSlice_apply _ _ _ _ _ ?_
  intro a; fin_cases a <;> exact (Nat.zero_add _).symm

theorem topK_values (R : FVec Ideal S2x64x224x224 .f32) (hR : ∀ i, (⊥ : EReal) < R i) (ht : S2x64x224x224.Transposes [0, 2, 3, 1] S2x224x224x64)
    (hs : S2x224x224x64.Slices (fun _ => 0) S2x224x224x8) (b : Fin 2) (y x : Fin 224) (k : Fin 8) :
    (Host.topK S2x224x224x8 3 (FloatOps.cmpfTotal .gt) (transpose S2x224x224x64 [0, 2, 3, 1] R ht) hs).1 (ix4 b y x k)
      = mapAt R b k.val y.val x.val := by
  have e1 : Fin.ofNat 224 y.val = y := Fin.ext (ofNat_val y.isLt)
  have e2 : Fin.ofNat 224 x.val = x := Fin.ext (ofNat_val x.isLt)
  have hA : ∀ q, ⊥ < left (weightsAt R b y.val x.val) 0 q := fun q => hR _
  show extractStridedSlice S2x224x224x8 (fun _ => 0) (Host.sort2 S2x224x224x64 3 (fun l r => FloatOps.cmpfTotal .gt l.1 r.1) (transpose S2x224x224x64 [0, 2, 3, 1] R ht)
    (fun i => if hd : 3 < S2x224x224x64.rank then iotaInDim S2x224x224x64 32 ⟨3, hd⟩ i else 0#32)).1 hs (ix4 b y x k) = _
  rw [slice_at]
  unfold Host.sort2
  rw [dif_pos (by decide)]
  refine (congrArg (fun q : Fin 64 => transpose S2x224x224x64 [0, 2, 3, 1] R ht (Shape.Idx.along (ix4 b y x (k.castLE (by decide : 8 ≤ 64)) : S2x224x224x64.Idx) (3 : Fin 4) q))
    (topK_pos R hR ht b y x k _ rfl)).trans ?_
  refine (transpose_apply _ _ _ _ (ix4 b (expertAt R b k.val y.val x.val) y x) ?_).trans ?_
  · intro a; fin_cases a <;> rfl
  · refine Eq.trans ?_ ((rounds (weightsAt R b y.val x.val)).picked hA k.val (Nat.lt_of_lt_of_le k.isLt (by decide))).symm
    show _ = R (ix4 b _ (Fin.ofNat 224 y.val) (Fin.ofNat 224 x.val))
    rw [e1, e2]
    rfl

theorem topK_positions (R : FVec Ideal S2x64x224x224 .f32) (hR : ∀ i, (⊥ : EReal) < R i) (ht : S2x64x224x224.Transposes [0, 2, 3, 1] S2x224x224x64)
    (hs : S2x224x224x64.Slices (fun _ => 0) S2x224x224x8) (b : Fin 2) (y x : Fin 224) (k : Fin 8) :
    (Host.topK S2x224x224x8 3 (FloatOps.cmpfTotal .gt) (transpose S2x224x224x64 [0, 2, 3, 1] R ht) hs).2 (ix4 b y x k)
      = BitVec.ofNat 32 (expertAt R b k.val y.val x.val).val := by
  show extractStridedSlice S2x224x224x8 (fun _ => 0) (Host.sort2 S2x224x224x64 3 (fun l r => FloatOps.cmpfTotal .gt l.1 r.1) (transpose S2x224x224x64 [0, 2, 3, 1] R ht)
    (fun i => if hd : 3 < S2x224x224x64.rank then iotaInDim S2x224x224x64 32 ⟨3, hd⟩ i else 0#32)).2 hs (ix4 b y x k) = _
  rw [slice_at]
  unfold Host.sort2
  rw [dif_pos (by decide)]
  refine (congrArg (fun q : Fin 64 => iotaInDim S2x224x224x64 32 (3 : Fin 4) (Shape.Idx.along (ix4 b y x (k.castLE (by decide : 8 ≤ 64)) : S2x224x224x64.Idx) (3 : Fin 4) q))
    (topK_pos R hR ht b y x k _ rfl)).trans ?_
  rfl

/-! ## The gather -/

/-- The gather along the experts reads, at each pixel and round, the entry at the round's start index. -/
theorem gather_apply [Facts] (X : FVec Ideal S2x224x224x64 .f32) (I : IVec S2x224x224x8x1 32) (b : Fin 2) (y x : Fin 224) (k : Fin 8) :
    Host.gather gather_S2x224x224x64_S2x224x224x8x1_S2x224x224x8_n_3_012_012_3_4_1111 X I (ix4 b y x k)
      = X (ix4 b y x (⟨min (I (ix5 b y x k (0 : Fin 1))).toInt.toNat 63, by omega⟩ : Fin 64)) := by
  unfold Host.gather
  congr 1
  funext a
  refine Fin.ext ?_
  show gather_S2x224x224x64_S2x224x224x8x1_S2x224x224x8_n_3_012_012_3_4_1111.start (ix4 b y x k) I a
    + gather_S2x224x224x64_S2x224x224x8x1_S2x224x224x8_n_3_012_012_3_4_1111.batchCoord (ix4 b y x k) a
    + gather_S2x224x224x64_S2x224x224x8x1_S2x224x224x8_n_3_012_012_3_4_1111.offCoord (ix4 b y x k) a = _
  have ho : gather_S2x224x224x64_S2x224x224x8x1_S2x224x224x8_n_3_012_012_3_4_1111.offCoord (ix4 b y x k) a = 0 := by
    refine GatherDims.offCoord_eq_zero _ _ _ fun h => ?_
    revert h
    rw [GatherDims.mem_sKept]
    revert a
    show ∀ a : Fin 4, ¬ (a ∉ ([3] : List (Fin 4)) ∧ a ∉ ([0, 1, 2] : List (Fin 4)))
    decide
  rw [ho]
  by_cases hb : a ∈ ([0, 1, 2] : List (Fin 4))
  · rw [GatherDims.start_batching _ _ _ _ hb]
    unfold GatherDims.batchCoord
    rw [dif_pos (show a ∈ gather_S2x224x224x64_S2x224x224x8x1_S2x224x224x8_n_3_012_012_3_4_1111.operandBatchingDims from hb), Nat.zero_add, Nat.add_zero]
    fin_cases a
    · rfl
    · rfl
    · rfl
    · exact absurd hb (by decide)
  · have ha : a = (3 : Fin 4) := by
      clear ho
      revert a
      show ∀ a : Fin 4, a ∉ ([0, 1, 2] : List (Fin 4)) → a = 3
      decide
    subst ha
    rw [GatherDims.batchCoord_eq_zero _ _ _ hb]
    simp only [Nat.add_zero]
    unfold GatherDims.start
    rw [dif_pos (show (3 : Fin 4) ∈ gather_S2x224x224x64_S2x224x224x8x1_S2x224x224x8_n_3_012_012_3_4_1111.startIndexMap from List.mem_singleton.mpr rfl)]
    have hsi : gather_S2x224x224x64_S2x224x224x8x1_S2x224x224x8_n_3_012_012_3_4_1111.siIdx (ix4 b y x k)
        ⟨List.idxOf (3 : Fin 4) gather_S2x224x224x64_S2x224x224x8x1_S2x224x224x8_n_3_012_012_3_4_1111.startIndexMap,
          List.idxOf_lt_length_iff.2 (List.mem_singleton.mpr rfl)⟩ = ix5 b y x k (0 : Fin 1) := by
      funext q; refine Fin.ext ?_
      fin_cases q <;> rfl
    rw [hsi]
    rfl

/-! ## The positions as start indices: in range, so taken as they are -/

/-- The start indices the reference makes of its positions, before their last unit axis is added. -/
abbrev wrapped [Facts] (P : IVec S2x224x224x8 32) : IVec S2x224x224x8 32 :=
  select (cmpi .slt P (broadcastInDim S2x224x224x8 ![] bcast_S_S2x224x224x8 (constantI S_ 32 0#32)))
    (addi P (broadcastInDim S2x224x224x8 ![] bcast_S_S2x224x224x8 (constantI S_ 32 64#32))) P

/-- A position among the experts is not negative: nothing is added to it. -/
theorem wrapped_eq [Facts] (P : IVec S2x224x224x8 32) (hP : ∀ i, ∃ n < 64, P i = BitVec.ofNat 32 n) : wrapped P = P := by
  funext i
  obtain ⟨n, hn, e⟩ := hP i
  have ht : (P i).toInt = n := by rw [e]; exact Cert.KernelIdeal.Hand.toInt_small n (by omega)
  show Scalar.select (IntOp.cmpi .slt (P i) 0#32) _ _ = P i
  have hc : IntOp.cmpi .slt (P i) 0#32 = 0#1 := by
    show BitVec.ofBool (BitVec.slt (P i) 0#32) = 0#1
    rw [BitVec.slt, ht]
    have : ¬ ((n : ℤ) < (0#32 : BitVec 32).toInt) := by show ¬ ((n : ℤ) < 0); omega
    rw [decide_eq_false this]
    rfl
  rw [hc]
  rfl

/-- A word below 64 passes both range tests. -/
theorem in_range (v : BitVec 32) (n : ℕ) (hn : n < 64) (e : v = BitVec.ofNat 32 n) :
    IntOp.andi (IntOp.cmpi .sge v 0#32) (IntOp.cmpi .sle v 63#32) = 1#1 := by
  have ht : v.toInt = n := by rw [e]; exact Cert.KernelIdeal.Hand.toInt_small n (by omega)
  have h1 : IntOp.cmpi .sge v 0#32 = 1#1 := by
    show BitVec.ofBool (BitVec.sle 0#32 v) = 1#1
    rw [BitVec.sle, ht]
    have : (0#32 : BitVec 32).toInt ≤ (n : ℤ) := by show (0 : ℤ) ≤ n; omega
    rw [decide_eq_true this]
    rfl
  have h2 : IntOp.cmpi .sle v 63#32 = 1#1 := by
    show BitVec.ofBool (BitVec.sle v 63#32) = 1#1
    rw [BitVec.sle, ht]
    have : (n : ℤ) ≤ (63#32 : BitVec 32).toInt := by show (n : ℤ) ≤ 63; omega
    rw [decide_eq_true this]
    rfl
  rw [h1, h2]
  rfl

/-- The guarded gather at positions among the experts: the expert's entry, never the filler. -/
theorem guarded_apply [Facts] (P : IVec S2x224x224x8 32) (hP : ∀ i, ∃ n < 64, P i = BitVec.ofNat 32 n) (X : FVec Ideal S2x224x224x64 .f32)
    (B : FVec Ideal S2x224x224x8 .f32) (hc : S2x224x224x8.ShapeCasts S2x224x224x8x1) (hr : S2x224x224x8x1.ReducesTo [4] S2x224x224x8) (hu : 0 < S_.numel)
    (b : Fin 2) (y x : Fin 224) (k : Fin 8) (e : Fin 64) (he : P (ix4 b y x k) = BitVec.ofNat 32 e.val) :
    select (Host.reduce IntOp.andi (andi (cmpi .sge (shapeCast S2x224x224x8x1 (wrapped P) hc) (broadcastInDim S2x224x224x8x1 ![] bcast_S_S2x224x224x8x1 (constantI S_ 32 0#32)))
        (cmpi .sle (shapeCast S2x224x224x8x1 (wrapped P) hc) (broadcastInDim S2x224x224x8x1 ![0, 1, 2, 3, 4] bcast_S1x1x1x1x1_S2x224x224x8x1_0_1_2_3_4
          (broadcastInDim S1x1x1x1x1 ![4] bcast_S1_S1x1x1x1x1_4 (constantI S1 32 63#32))))) (constantI S_ 1 1#1) hr hu)
      (Host.gather gather_S2x224x224x64_S2x224x224x8x1_S2x224x224x8_n_3_012_012_3_4_1111 X (shapeCast S2x224x224x8x1 (wrapped P) hc)) B (ix4 b y x k)
      = X (ix4 b y x e) := by
  rw [wrapped_eq P hP, show ∀ (p : IVec S2x224x224x8 1) (u v : FVec Ideal S2x224x224x8 .f32) i, select p u v i = Scalar.select (p i) (u i) (v i) from fun _ _ _ _ => rfl, Host.reduce_andi_one _ _ _ _ _ rfl (fun i => by
    obtain ⟨n, hn, hq⟩ := hP (S2x224x224x8.rowMajor.symm ((S2x224x224x8x1.rowMajor i).cast hc.symm))
    exact in_range _ n hn hq), show ∀ (u v : EReal), Scalar.select 1#1 u v = u from fun _ _ => rfl, gather_apply]
  have hi : shapeCast S2x224x224x8x1 P hc (ix5 b y x k (0 : Fin 1)) = BitVec.ofNat 32 e.val := by
    refine (shapeCast_apply _ _ _ (ix4 b y x k) ?_).trans he
    refine (rowMajor_val4 (d := ![2, 224, 224, 8]) _ _ _ _ rfl rfl rfl).trans (Eq.trans ?_ (rowMajor_val5 (d := ![2, 224, 224, 8, 1]) _ _ _ _ _ rfl rfl rfl rfl).symm)
    show b.val * 401408 + y.val * 1792 + x.val * 8 + k.val = b.val * 401408 + y.val * 1792 + x.val * 8 + k.val * 1 + 0
    omega
  congr 2
  refine Fin.ext ?_
  show min (shapeCast S2x224x224x8x1 P hc (ix5 b y x k (0 : Fin 1))).toInt.toNat 63 = e.val
  rw [hi, Cert.KernelIdeal.Hand.toInt_small e.val (by omega), Int.toNat_natCast]
  omega

/-! ## The three results -/

theorem addf_at {s : Shape} (u v : FVec Ideal s .f32) (i : s.Idx) {p q : EReal} (hu : u i = p) (hv : v i = q) : addf u v i = p + q :=
  congrArg₂ (· + · : EReal → EReal → EReal) hu hv

theorem constant_zero [Facts] (i : S2x64x224x224.Idx) :
    (broadcastInDim S2x64x224x224 ![] bcast_S_S2x64x224x224 (constant S_ .f32 0x00000000#32) : FVec Ideal S2x64x224x224 .f32) i = 0 := Ideal.ofBits_zero_f32

theorem mulf_at {s : Shape} (u v : FVec Ideal s .f32) (i : s.Idx) {p q : EReal} (hu : u i = p) (hv : v i = q) : mulf u v i = p * q :=
  congrArg₂ (· * · : EReal → EReal → EReal) hu hv

variable (m : (ℓ : Loc nD τ sig) → Buf (Elt Ideal) ℓ)

/-- The reference's three arguments. -/
abbrev refX (c : Dev nD) : FVec Ideal S2x384x224x224 .f32 := m ((c.tc : Thread nD τ).loc main_arg0)
abbrev refR (c : Dev nD) : FVec Ideal S2x64x224x224 .f32 := m ((c.tc : Thread nD τ).loc main_arg1)
abbrev refW (c : Dev nD) : FVec Ideal S64x384x3x3 .f32 := m ((c.tc : Thread nD τ).loc main_arg2)

/-- Every position of the top eight is below 64. -/
theorem positions_small (R : FVec Ideal S2x64x224x224 .f32) (hR : ∀ i, (⊥ : EReal) < R i) (ht : S2x64x224x224.Transposes [0, 2, 3, 1] S2x224x224x64)
    (hs : S2x224x224x64.Slices (fun _ => 0) S2x224x224x8) (i : S2x224x224x8.Idx) :
    ∃ n < 64, (Host.topK S2x224x224x8 3 (FloatOps.cmpfTotal .gt) (transpose S2x224x224x64 [0, 2, 3, 1] R ht) hs).2 i = BitVec.ofNat 32 n :=
  ⟨_, (expertAt R (i 0) (i 3).val (i 1).val (i 2).val).isLt, (congrArg _ (eq_ix4 i)).trans (topK_positions R hR ht hs (i 0) (i 1) (i 2) (i 3))⟩

set_option maxHeartbeats 4000000 in
theorem selected_eq (c : Dev nD) (hR : ∀ i, (⊥ : EReal) < refR m c i) :
    Cert.ReferenceIdeal.Value.res_main_v60 m c
      = fun q : S2x8x224x224.Idx => selectedAt (refX m c) (refR m c) (refW m c) (q 0) (q 1).val (q 2).val (q 3).val := by
  funext q
  obtain ⟨b, k, y, x, rfl⟩ : ∃ (b : Fin 2) (k : Fin 8) (y x : Fin 224), q = ix4 b k y x := ⟨q 0, q 1, q 2, q 3, eq_ix4 q⟩
  unfold Cert.ReferenceIdeal.Value.res_main_v60
  refine (transpose_apply _ _ _ _ (ix4 b y x k) (by intro a; fin_cases a <;> rfl)).trans ?_
  refine mulf_at _ _ _ ?_ (topK_values (refR m c) hR _ _ b y x k)
  refine (guarded_apply _ (positions_small (refR m c) hR _ _) _ _ _ _ _ b y x k (expertAt (refR m c) b k.val y.val x.val) (topK_positions (refR m c) hR _ _ b y x k)).trans ?_
  refine (transpose_apply _ _ _ _ (ix4 b (expertAt (refR m c) b k.val y.val x.val) y x) (by intro a; fin_cases a <;> rfl)).trans ?_
  show _ = convS (imageOf (refX m c)) (filterOf (refW m c)) b (expertAt (refR m c) b k.val y.val x.val) y.val x.val
  generalize expertAt (refR m c) b k.val y.val x.val = e
  have ht := fun dy dx => tap_apply (refX m c) (refW m c) dy dx dy.val dx.val rfl rfl
  refine (addf_at _ _ _ (addf_at _ _ _ (addf_at _ _ _ (addf_at _ _ _ (addf_at _ _ _ (addf_at _ _ _ (addf_at _ _ _ (addf_at _ _ _ (addf_at _ _ _
    (constant_zero _) (ht 0 0 _ _ _ _ _ _ b e y x)) (ht 0 1 _ _ _ _ _ _ b e y x)) (ht 0 2 _ _ _ _ _ _ b e y x))
    (ht 1 0 _ _ _ _ _ _ b e y x)) (ht 1 1 _ _ _ _ _ _ b e y x)) (ht 1 2 _ _ _ _ _ _ b e y x))
    (ht 2 0 _ _ _ _ _ _ b e y x)) (ht 2 1 _ _ _ _ _ _ b e y x)) (ht 2 2 _ _ _ _ _ _ b e y x)).trans ?_
  rw [zero_add]
  rfl

theorem map_eq (c : Dev nD) (hR : ∀ i, (⊥ : EReal) < refR m c i) (ht : S2x64x224x224.Transposes [0, 2, 3, 1] S2x224x224x64)
    (hs : S2x224x224x64.Slices (fun _ => 0) S2x224x224x8) (h : S2x224x224x8.Transposes [0, 3, 1, 2] S2x8x224x224) :
    transpose S2x8x224x224 [0, 3, 1, 2] (Host.topK S2x224x224x8 3 (FloatOps.cmpfTotal .gt) (transpose S2x224x224x64 [0, 2, 3, 1] (refR m c) ht) hs).1 h
      = fun q : S2x8x224x224.Idx => mapAt (refR m c) (q 0) (q 1).val (q 2).val (q 3).val := by
  funext q
  refine (transpose_apply _ _ _ _ (ix4 (q 0) (q 2) (q 3) (q 1) : S2x224x224x8.Idx) (by intro a; fin_cases a <;> rfl)).trans ?_
  exact topK_values (refR m c) hR ht hs (q 0) (q 2) (q 3) (q 1)

theorem indices_eq (c : Dev nD) (hR : ∀ i, (⊥ : EReal) < refR m c i) (ht : S2x64x224x224.Transposes [0, 2, 3, 1] S2x224x224x64)
    (hs : S2x224x224x64.Slices (fun _ => 0) S2x224x224x8) (h : S2x224x224x8.Transposes [0, 3, 1, 2] S2x8x224x224) :
    transpose S2x8x224x224 [0, 3, 1, 2] (Host.topK S2x224x224x8 3 (FloatOps.cmpfTotal .gt) (transpose S2x224x224x64 [0, 2, 3, 1] (refR m c) ht) hs).2 h
      = fun q : S2x8x224x224.Idx => BitVec.ofNat 32 (expertAt (refR m c) (q 0) (q 1).val (q 2).val (q 3).val).val := by
  funext q
  refine (transpose_apply _ _ _ _ (ix4 (q 0) (q 2) (q 3) (q 1) : S2x224x224x8.Idx) (by intro a; fin_cases a <;> rfl)).trans ?_
  exact topK_positions (refR m c) hR ht hs (q 0) (q 2) (q 3) (q 1)

end Cert.ReferenceIdeal.Hand

end
end
-- ==== Proof.lean ====
/-
  Hand-written. The assembly of `Cert.Claim`: the frames of the kernel, of its idealization and of the reference,
  and that the last two end with equal results where every routing weight is above minus infinity.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_weights_above_neg_inf
public import proofs.«01_k».proof.Proof.Transport
public import proofs.«01_k».proof.Proof.Result
public import proofs.«01_k».proof.Proof.Reference
public import Idealize.ShloMosaic.Lib.Claim
public import Idealize.ShloMosaic.Lib.ReduceAll
public import Idealize.ShloMosaic.Adequacy
public import Idealize.ShloMosaic.Init

@[expose] public section

noncomputable section

namespace Cert.Proof

open Idealize.ShloMosaic Idealize.SL.Sem

/-- The kernel at machine numbers terminates, leaves its arguments and every counter at zero. -/
theorem frame_k : Cert.quiescent_Kernel := fun m g _ => Cert.KernelIdeal.Hand.frame_kernel m g

/-- So does the kernel over the extended reals. -/
theorem frame_i : Cert.quiescent_KernelIdeal := fun m g _ => Cert.KernelIdeal.Hand.frame m g

/-- So does the reference, which declares no semaphore. -/
theorem frame_r : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- What the precondition says of one routing weight. -/
theorem weight_above [Cert.Pre_weights_above_neg_inf.Facts] (m : (ℓ : Loc Cert.KernelIdeal.nD Cert.KernelIdeal.τ Cert.KernelIdeal.sig) → Buf (Elt Ideal) ℓ)
    (h : Cert.Pre_KernelIdeal_weights_above_neg_inf m) (c : Dev Cert.KernelIdeal.nD) (i : Cert.KernelIdeal.S2x64x224x224.Idx) :
    (⊥ : EReal) < Cert.KernelIdeal.Hand.argR m c i := by
  have e := congrFun (h c) (Shape.Idx.first Cert.Pre_weights_above_neg_inf.Facts.h_S_)
  unfold Cert.Pre_weights_above_neg_inf.fn at e
  dsimp only at e
  haveI : Subsingleton Cert.Pre_weights_above_neg_inf.S_.Idx := ⟨fun a b => funext fun k => k.elim0⟩
  have e' : BitVec.ofBool (decide ((FloatOps.ofBits .f32 0xFF800000#32 : Ideal .f32) < Cert.KernelIdeal.Hand.argR m c i)) = 1#1 :=
    Host.reduce_andi_all _ _ _ _ _ e i
  rw [Cert.KernelIdeal.Hand.bot_bits] at e'
  by_contra hn
  rw [decide_eq_false hn] at e'
  exact absurd e' (by decide)

/-- The kernel and the reference end with equal results. -/
theorem equal [Cert.Pre_weights_above_neg_inf.Facts] : Cert.algebraic_KernelIdeal_ReferenceIdeal_pre_weights_above_neg_inf := fun m g m' g' hpre hargs => by
  refine ⟨Cert.KernelIdeal.Hand.result4 m, Cert.KernelIdeal.Hand.result5 m, Cert.KernelIdeal.Hand.result6 m, ?_, ?_⟩
  · exact (θ_run Cert.KernelIdeal.defs _ _).mono (fun r h c => ⟨(h.1 c).1, (h.1 c).2.1, (h.1 c).2.2, h.2.1 c⟩)
      (θ_run_and (Cert.KernelIdeal.Hand.run_results m g) (Cert.KernelIdeal.Hand.frame m g))
  · refine (θ_run Cert.ReferenceIdeal.defs _ _).mono (fun r h c => ?_) (Cert.ReferenceIdeal.Value.run (F := Ideal) m' g')
    have hX : Cert.ReferenceIdeal.Hand.refX m' c = Cert.KernelIdeal.Hand.argX m c := (hargs c).1
    have hR : Cert.ReferenceIdeal.Hand.refR m' c = Cert.KernelIdeal.Hand.argR m c := (hargs c).2.1
    have hW : Cert.ReferenceIdeal.Hand.refW m' c = Cert.KernelIdeal.Hand.argW m c := (hargs c).2.2
    have hlt : ∀ i, (⊥ : EReal) < Cert.ReferenceIdeal.Hand.refR m' c i := fun i => by rw [hR]; exact weight_above m hpre c i
    obtain ⟨h0, h1, h2, ha⟩ := h c
    refine ⟨h0.trans ((Cert.ReferenceIdeal.Hand.selected_eq m' c hlt).trans ?_), h1.trans ((Cert.ReferenceIdeal.Hand.map_eq m' c hlt _ _ _).trans ?_),
      h2.trans ((Cert.ReferenceIdeal.Hand.indices_eq m' c hlt _ _ _).trans ?_), ha⟩
    · rw [hX, hR, hW]; rfl
    · rw [hR]; rfl
    · rw [hR]; rfl

theorem claim : Cert.Claim :=
  ⟨Cert.Kernel.Gen.facts, Cert.KernelIdeal.Gen.facts, Cert.ReferenceIdeal.Gen.facts, Cert.Pre_weights_above_neg_inf.Gen.facts,
    frame_k, frame_i, fun m g _ => frame_i m g trivial, frame_r, fun m g _ => frame_r m g trivial, trivial, equal⟩

end Cert.Proof

end
